-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x768x32x32 : Shape := ⟨4, ![16, 768, 32, 32]⟩
abbrev S2x768 : Shape := ⟨2, ![2, 768]⟩
abbrev S_ : Shape := ⟨0, ![]⟩

class Facts : Prop where
  bcast_S_S16x768x32x32 : S_.BroadcastsInDim S16x768x32x32 (![] : Fin 0 → Fin S16x768x32x32.rank)

variable [Facts]

def fn {F : FTy → Type} [FloatOps F] (main_arg0 : FVec F S16x768x32x32 .f32) (main_arg1 : FVec F S2x768 .f32) : IVec S16x768x32x32 1 :=
  let main_v0 : FVec F S16x768x32x32 .f32 := Host.absf main_arg0
  let main_cst : FVec F S_ .f32 := constant S_ .f32 0x7F800000#32
  let main_v1 : FVec F S16x768x32x32 .f32 := broadcastInDim S16x768x32x32 ![] bcast_S_S16x768x32x32 main_cst
  let main_v2 : IVec S16x768x32x32 1 := cmpf .olt main_v0 main_v1
  main_v2
-- ==== Kernel.lean ====
abbrev S16x768x32x32 : Shape := ⟨4, ![16, 768, 32, 32]⟩
abbrev S2x768 : Shape := ⟨2, ![2, 768]⟩
abbrev S16x768x1024 : Shape := ⟨3, ![16, 768, 1024]⟩
abbrev S16x1x1024 : Shape := ⟨3, ![16, 1, 1024]⟩
abbrev S16x2x1024 : Shape := ⟨3, ![16, 2, 1024]⟩
abbrev S1x1 : Shape := ⟨2, ![1, 1]⟩
abbrev S4x768x1024 : Shape := ⟨3, ![4, 768, 1024]⟩
abbrev S4x1x1024 : Shape := ⟨3, ![4, 1, 1024]⟩
abbrev S4x2x1024 : Shape := ⟨3, ![4, 2, 1024]⟩
abbrev S2 : Shape := ⟨1, ![2]⟩
abbrev S2x1 : Shape := ⟨2, ![2, 1]⟩
abbrev S1x1024 : Shape := ⟨2, ![1, 1024]⟩
abbrev S1x768x1024 : Shape := ⟨3, ![1, 768, 1024]⟩
abbrev S768x1024 : Shape := ⟨2, ![768, 1024]⟩
abbrev S1024 : Shape := ⟨1, ![1024]⟩
abbrev S1x768 : Shape := ⟨2, ![1, 768]⟩
abbrev S768x512 : Shape := ⟨2, ![768, 512]⟩
abbrev S2x512 : Shape := ⟨2, ![2, 512]⟩
abbrev S2x1024 : Shape := ⟨2, ![2, 1024]⟩
abbrev S384x1024 : Shape := ⟨2, ![384, 1024]⟩
abbrev S1x384 : Shape := ⟨2, ![1, 384]⟩
abbrev S1 : Shape := ⟨1, ![1]⟩
abbrev S1x1x1024 : Shape := ⟨3, ![1, 1, 1024]⟩
abbrev S1x2 : Shape := ⟨2, ![1, 2]⟩
abbrev S1x2x1024 : Shape := ⟨3, ![1, 2, 1024]⟩
abbrev S16x1024 : Shape := ⟨2, ![16, 1024]⟩
abbrev S16x1024x2 : Shape := ⟨3, ![16, 1024, 2]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S16x768x32x32, .f32⟩
  | .hbm, ⟨1, _⟩ => ⟨S2x768, .f32⟩
  | .hbm, ⟨2, _⟩ => ⟨S16x768x1024, .f32⟩
  | .hbm, ⟨3, _⟩ => ⟨S2x768, .f32⟩
  | .hbm, ⟨4, _⟩ => ⟨S16x1x1024, .i32⟩
  | .hbm, ⟨5, _⟩ => ⟨S16x1x1024, .i32⟩
  | .hbm, ⟨6, _⟩ => ⟨S16x2x1024, .f32⟩
  | .hbm, ⟨7, _⟩ => ⟨S16x2x1024, .f32⟩
  | .hbm, ⟨8, _⟩ => ⟨S1x1, .f32⟩
  | .hbm, ⟨9, _⟩ => ⟨S16x1024, .i32⟩
  | .hbm, ⟨10, _⟩ => ⟨S16x1024, .i32⟩
  | .hbm, ⟨11, _⟩ => ⟨S16x1024x2, .f32⟩
  | .hbm, ⟨12, _⟩ => ⟨S16x1024x2, .f32⟩
  | .hbm, ⟨13, _⟩ => ⟨S_, .f32⟩
  | .local _ .vmem, ⟨0, _⟩ => ⟨S4x768x1024, .f32⟩
  | .local _ .vmem, ⟨1, _⟩ => ⟨S4x768x1024, .f32⟩
  | .local _ .vmem, ⟨2, _⟩ => ⟨S2x768, .f32⟩
  | .local _ .vmem, ⟨3, _⟩ => ⟨S2x768, .f32⟩
  | .local _ .vmem, ⟨4, _⟩ => ⟨S4x1x1024, .i32⟩
  | .local _ .vmem, ⟨5, _⟩ => ⟨S4x1x1024, .i32⟩
  | .local _ .vmem, ⟨6, _⟩ => ⟨S4x1x1024, .i32⟩
  | .local _ .vmem, ⟨7, _⟩ => ⟨S4x1x1024, .i32⟩
  | .local _ .vmem, ⟨8, _⟩ => ⟨S4x2x1024, .f32⟩
  | .local _ .vmem, ⟨9, _⟩ => ⟨S4x2x1024, .f32⟩
  | .local _ .vmem, ⟨10, _⟩ => ⟨S4x2x1024, .f32⟩
  | .local _ .vmem, ⟨11, _⟩ => ⟨S4x2x1024, .f32⟩
  | .local _ .vmem, ⟨12, _⟩ => ⟨S1x1, .f32⟩
  | _, _ => ⟨S16x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x768x32x32 : Shape := ⟨4, ![16, 768, 32, 32]⟩
abbrev S2x768 : Shape := ⟨2, ![2, 768]⟩
abbrev S16x768x1024 : Shape := ⟨3, ![16, 768, 1024]⟩
abbrev S16x1024x768 : Shape := ⟨3, ![16, 1024, 768]⟩
abbrev S_ : Shape := ⟨0, ![]⟩
abbrev S16x1024 : Shape := ⟨2, ![16, 1024]⟩
abbrev S16x1024x1 : Shape := ⟨3, ![16, 1024, 1]⟩
abbrev S16x1024x2 : Shape := ⟨3, ![16, 1024, 2]⟩
abbrev S1x2x768 : Shape := ⟨3, ![1, 2, 768]⟩
abbrev S16x2x768 : Shape := ⟨3, ![16, 2, 768]⟩
abbrev S16 : Shape := ⟨1, ![16]⟩
abbrev S16x2 : Shape := ⟨2, ![16, 2]⟩
abbrev S16x2x1 : Shape := ⟨3, ![16, 2, 1]⟩
abbrev S2 : Shape := ⟨1, ![2]⟩
abbrev S1x1x2 : Shape := ⟨3, ![1, 1, 2]⟩
abbrev S16x1x2 : Shape := ⟨3, ![16, 1, 2]⟩

abbrev nBuf : Space → Nat
  | .hbm => 168
  | .vmem => 0
  | .smem => 0
  | _ => 0

abbrev hbmTy0_0 (i : Nat) : BufTy := match i % 128 with
  | 0 => ⟨S16x768x32x32, .f32⟩
  | 1 => ⟨S2x768, .f32⟩
  | 2 => ⟨S16x768x1024, .f32⟩
  | 3 => ⟨S16x1024x768, .f32⟩
  | 4 => ⟨S16x1024x768, .f32⟩
  | 5 => ⟨S_, .f32⟩
  | 6 => ⟨S16x1024, .f32⟩
  | 7 => ⟨S16x1024x1, .f32⟩
  | 8 => ⟨S16x1024x1, .f32⟩
  | 9 => ⟨S_, .f32⟩
  | 10 => ⟨S16x1024x1, .f32⟩
  | 11 => ⟨S16x1024x1, .f32⟩
  | 12 => ⟨S16x1024x768, .f32⟩
  | 13 => ⟨S16x1024x768, .f32⟩
  | 14 => ⟨S_, .f32⟩
  | 15 => ⟨S16x1024x2, .f32⟩
  | 16 => ⟨S1x2x768, .f32⟩
  | 17 => ⟨S16x2x768, .f32⟩
  | 18 => ⟨S_, .f32⟩
  | 19 => ⟨S16, .f32⟩
  | 20 => ⟨S_, .i32⟩
  | 21 => ⟨S_, .i32⟩
  | 22 => ⟨S16x1024x768, .f32⟩
  | 23 => ⟨S16x1024x768, .f32⟩
  | 24 => ⟨S_, .i32⟩
  | 25 => ⟨S_, .i32⟩
  | 26 => ⟨S16x2x768, .f32⟩
  | 27 => ⟨S16x1024x2, .f32⟩
  | 28 => ⟨S16x1024x2, .f32⟩
  | 29 => ⟨S16, .f32⟩
  | 30 => ⟨S_, .i32⟩
  | 31 => ⟨S_, .i1⟩
  | 32 => ⟨S_, .i32⟩
  | 33 => ⟨S_, .i32⟩
  | 34 => ⟨S16x2x768, .f32⟩
  | 35 => ⟨S_, .f32⟩
  | 36 => ⟨S16x2, .f32⟩
  | 37 => ⟨S16x2x1, .f32⟩
  | 38 => ⟨S16x2x1, .f32⟩
  | 39 => ⟨S_, .f32⟩
  | 40 => ⟨S16x2x1, .f32⟩
  | 41 => ⟨S16x2x1, .f32⟩
  | 42 => ⟨S16x2x768, .f32⟩
  | 43 => ⟨S16x2x768, .f32⟩
  | 44 => ⟨S16x1024x2, .f32⟩
  | 45 => ⟨S_, .f32⟩
  | 46 => ⟨S16x1024x2, .f32⟩
  | 47 => ⟨S16x1024x2, .f32⟩
  | 48 => ⟨S_, .f32⟩
  | 49 => ⟨S16x1024x2, .f32⟩
  | 50 => ⟨S16x1024x2, .f32⟩
  | 51 => ⟨S_, .f32⟩
  | 52 => ⟨S16x1024, .f32⟩
  | 53 => ⟨S16x1024x1, .f32⟩
  | 54 => ⟨S16x1024x2, .f32⟩
  | 55 => ⟨S16x1024x2, .i1⟩
  | 56 => ⟨S2, .i32⟩
  | 57 => ⟨S_, .i32⟩
  | 58 => ⟨S_, .i32⟩
  | 59 => ⟨S16x1024x2, .i32⟩
  | 60 => ⟨S16x1024x2, .i32⟩
  | 61 => ⟨S16x1024x2, .i32⟩
  | 62 => ⟨S_, .i32⟩
  | 63 => ⟨S16x1024, .i32⟩
  | 64 => ⟨S16x1024x1, .i32⟩
  | 65 => ⟨S2, .i32⟩
  | 66 => ⟨S1x1x2, .i32⟩
  | 67 => ⟨S16x1024x2, .i32⟩
  | 68 => ⟨S16x1024x2, .i32⟩
  | 69 => ⟨S16x1024x2, .i1⟩
  | 70 => ⟨S16x1024x2, .f32⟩
  | 71 => ⟨S16x2x768, .f32⟩
  | 72 => ⟨S_, .f32⟩
  | 73 => ⟨S16x2, .f32⟩
  | 74 => ⟨S16x2x1, .f32⟩
  | 75 => ⟨S_, .f32⟩
  | 76 => ⟨S16x2x1, .f32⟩
  | 77 => ⟨S16x2x1, .f32⟩
  | 78 => ⟨S16x2x768, .f32⟩
  | 79 => ⟨S16x2x768, .f32⟩
  | 80 => ⟨S16x2x768, .f32⟩
  | 81 => ⟨S_, .f32⟩
  | 82 => ⟨S16x2, .f32⟩
  | 83 => ⟨S16x2x1, .f32⟩
  | 84 => ⟨S16x2x1, .f32⟩
  | 85 => ⟨S_, .f32⟩
  | 86 => ⟨S16x2x1, .f32⟩
  | 87 => ⟨S16x2x1, .f32⟩
  | 88 => ⟨S16x2x768, .f32⟩
  | 89 => ⟨S16x2x768, .f32⟩
  | 90 => ⟨S16x2x768, .f32⟩
  | 91 => ⟨S_, .f32⟩
  | 92 => ⟨S16x2, .f32⟩
  | 93 => ⟨S_, .f32⟩
  | 94 => ⟨S16, .f32⟩
  | 95 => ⟨S_, .f32⟩
  | 96 => ⟨S16, .f32⟩
  | 97 => ⟨S16, .f32⟩
  | 98 => ⟨S_, .i32⟩
  | 99 => ⟨S_, .i1⟩
  | 100 => ⟨S16x1024x2, .f32⟩
  | 101 => ⟨S_, .i32⟩
  | 102 => ⟨S_, .i1⟩
  | 103 => ⟨S16, .f32⟩
  | 104 => ⟨S_, .i32⟩
  | 105 => ⟨S_, .i32⟩
  | 106 => ⟨S_, .f32⟩
  | 107 => ⟨S16x1024, .f32⟩
  | 108 => ⟨S16x1024x1, .f32⟩
  | 109 => ⟨S16x1024x2, .f32⟩
  | 110 => ⟨S16x1024x2, .i1⟩
  | 111 => ⟨S2, .i32⟩
  | 112 => ⟨S_, .i32⟩
  | 113 => ⟨S_, .i32⟩
  | 114 => ⟨S16x1024x2, .i32⟩
  | 115 => ⟨S16x1024x2, .i32⟩
  | 116 => ⟨S16x1024x2, .i32⟩
  | 117 => ⟨S_, .i32⟩
  | 118 => ⟨S16x1024, .i32⟩
  | 119 => ⟨S16x1024x1, .i32⟩
  | 120 => ⟨S_, .f32⟩
  | 121 => ⟨S16x1024, .f32⟩
  | 122 => ⟨S16x1024x1, .f32⟩
  | 123 => ⟨S16x1024x2, .f32⟩
  | 124 => ⟨S16x1024x2, .i1⟩
  | 125 => ⟨S2, .i32⟩
  | 126 => ⟨S_, .i32⟩
  | 127 => ⟨S_, .i32⟩
  | _ => ⟨S16x768x32x32, .f32⟩

abbrev hbmTy0_1 (i : Nat) : BufTy := match i % 128 with
  | 0 => ⟨S16x1024x2, .i32⟩
  | 1 => ⟨S16x1024x2, .i32⟩
  | 2 => ⟨S16x1024x2, .i32⟩
  | 3 => ⟨S_, .i32⟩
  | 4 => ⟨S16x1024, .i32⟩
  | 5 => ⟨S16x1024x1, .i32⟩
  | 6 => ⟨S_, .f32⟩
  | 7 => ⟨S16x2, .f32⟩
  | 8 => ⟨S16x1x2, .f32⟩
  | 9 => ⟨S_, .f32⟩
  | 10 => ⟨S16x2, .f32⟩
  | 11 => ⟨S16x1x2, .f32⟩
  | 12 => ⟨S16x1024x2, .f32⟩
  | 13 => ⟨S16x1024x2, .f32⟩
  | 14 => ⟨S16x1x2, .f32⟩
  | 15 => ⟨S_, .f32⟩
  | 16 => ⟨S16x1x2, .f32⟩
  | 17 => ⟨S16x1x2, .f32⟩
  | 18 => ⟨S16x1024x2, .f32⟩
  | 19 => ⟨S16x1024x2, .f32⟩
  | 20 => ⟨S_, .f32⟩
  | 21 => ⟨S16x1024x2, .f32⟩
  | 22 => ⟨S16x1024x2, .f32⟩
  | 23 => ⟨S_, .f32⟩
  | 24 => ⟨S2x768, .f32⟩
  | 25 => ⟨S_, .f32⟩
  | 26 => ⟨S2x768, .f32⟩
  | 27 => ⟨S2x768, .f32⟩
  | 28 => ⟨S16x1024, .i32⟩
  | 29 => ⟨S2, .i32⟩
  | 30 => ⟨S1x1x2, .i32⟩
  | 31 => ⟨S16x1024x2, .i32⟩
  | 32 => ⟨S16x1024x2, .i32⟩
  | 33 => ⟨S16x1024x2, .i1⟩
  | 34 => ⟨S16x1024x2, .f32⟩
  | 35 => ⟨S16x1024, .i32⟩
  | 36 => ⟨S_, .f32⟩
  | 37 => ⟨S_, .f32⟩
  | 38 => ⟨S_, .f32⟩
  | 39 => ⟨S_, .f32⟩
  | _ => ⟨S16x768x32x32, .f32⟩

abbrev hbmTy (i : Nat) : BufTy := match i / 128 with
  | 0 => hbmTy0_0 i
  | 1 => hbmTy0_1 i
  | _ => ⟨S16x768x32x32, .f32⟩

abbrev bufTy : (tb : Table) → Fin (tcTables nBuf tb) → BufTy
  | .hbm, ⟨i, _⟩ => hbmTy i
  | _, _ => ⟨S16x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_c : Ref sig .tc := ⟨.hbm, 20, rfl⟩
abbrev main_c_3 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev main_while0c_c_25 : Ref sig .tc := ⟨.hbm, 30, rfl⟩
abbrev main_while0c_v57 : Ref sig .tc := ⟨.hbm, 31, rfl⟩
abbrev main_while0b_c_25 : Ref sig .tc := ⟨.hbm, 32, rfl⟩
abbrev main_while0b_v57 : Ref sig .tc := ⟨.hbm, 33, rfl⟩
abbrev main_while0b_v58 : Ref sig .tc := ⟨.hbm, 34, rfl⟩
abbrev main_while0b_cst_26 : Ref sig .tc := ⟨.hbm, 35, rfl⟩
abbrev main_while0b_v59 : Ref sig .tc := ⟨.hbm, 36, rfl⟩
abbrev main_while0b_v60 : Ref sig .tc := ⟨.hbm, 37, rfl⟩
abbrev main_while0b_v61 : Ref sig .tc := ⟨.hbm, 38, rfl⟩
abbrev main_while0b_cst_27 : Ref sig .tc := ⟨.hbm, 39, rfl⟩
abbrev main_while0b_v62 : Ref sig .tc := ⟨.hbm, 40, rfl⟩
abbrev main_while0b_v63 : Ref sig .tc := ⟨.hbm, 41, rfl⟩
abbrev main_while0b_v64 : Ref sig .tc := ⟨.hbm, 42, rfl⟩
abbrev main_while0b_v65 : Ref sig .tc := ⟨.hbm, 43, rfl⟩
abbrev main_while0b_v66 : Ref sig .tc := ⟨.hbm, 44, rfl⟩
abbrev main_while0b_cst_28 : Ref sig .tc := ⟨.hbm, 45, rfl⟩
abbrev main_while0b_v67 : Ref sig .tc := ⟨.hbm, 46, rfl⟩
abbrev main_while0b_v68 : Ref sig .tc := ⟨.hbm, 47, rfl⟩
abbrev main_while0b_cst_29 : Ref sig .tc := ⟨.hbm, 48, rfl⟩
abbrev main_while0b_v69 : Ref sig .tc := ⟨.hbm, 49, rfl⟩
abbrev main_while0b_v70 : Ref sig .tc := ⟨.hbm, 50, rfl⟩
abbrev main_while0b_cst_30 : Ref sig .tc := ⟨.hbm, 51, rfl⟩
abbrev main_while0b_v71 : Ref sig .tc := ⟨.hbm, 52, rfl⟩
abbrev main_while0b_v72 : Ref sig .tc := ⟨.hbm, 53, rfl⟩
abbrev main_while0b_v73 : Ref sig .tc := ⟨.hbm, 54, rfl⟩
abbrev main_while0b_v74 : Ref sig .tc := ⟨.hbm, 55, rfl⟩
abbrev main_while0b_v75 : Ref sig .tc := ⟨.hbm, 56, rfl⟩
abbrev main_while0b_c_31 : Ref sig .tc := ⟨.hbm, 57, rfl⟩
abbrev main_while0b_call0_v0 : Ref sig .tc := ⟨.hbm, 58, rfl⟩
abbrev main_while0b_call0_v1 : Ref sig .tc := ⟨.hbm, 59, rfl⟩
abbrev main_while0b_call0_v2 : Ref sig .tc := ⟨.hbm, 60, rfl⟩
abbrev main_while0b_v76 : Ref sig .tc := ⟨.hbm, 61, rfl⟩
abbrev main_while0b_c_32 : Ref sig .tc := ⟨.hbm, 62, rfl⟩
abbrev main_while0b_v77 : Ref sig .tc := ⟨.hbm, 63, rfl⟩
abbrev main_while0b_v78 : Ref sig .tc := ⟨.hbm, 64, rfl⟩
abbrev main_while0b_v79 : Ref sig .tc := ⟨.hbm, 65, rfl⟩
abbrev main_while0b_v80 : Ref sig .tc := ⟨.hbm, 66, rfl⟩
abbrev main_while0b_v81 : Ref sig .tc := ⟨.hbm, 67, rfl⟩
abbrev main_while0b_v82 : Ref sig .tc := ⟨.hbm, 68, rfl⟩
abbrev main_while0b_v83 : Ref sig .tc := ⟨.hbm, 69, rfl⟩
abbrev main_while0b_v84 : Ref sig .tc := ⟨.hbm, 70, rfl⟩
abbrev main_while0b_v85 : Ref sig .tc := ⟨.hbm, 71, rfl⟩
abbrev main_while0b_cst_33 : Ref sig .tc := ⟨.hbm, 72, rfl⟩
abbrev main_while0b_v86 : Ref sig .tc := ⟨.hbm, 73, rfl⟩
abbrev main_while0b_v87 : Ref sig .tc := ⟨.hbm, 74, rfl⟩
abbrev main_while0b_cst_34 : Ref sig .tc := ⟨.hbm, 75, rfl⟩
abbrev main_while0b_v88 : Ref sig .tc := ⟨.hbm, 76, rfl⟩
abbrev main_while0b_v89 : Ref sig .tc := ⟨.hbm, 77, rfl⟩
abbrev main_while0b_v90 : Ref sig .tc := ⟨.hbm, 78, rfl⟩
abbrev main_while0b_v91 : Ref sig .tc := ⟨.hbm, 79, rfl⟩
abbrev main_while0b_v92 : Ref sig .tc := ⟨.hbm, 80, rfl⟩
abbrev main_while0b_cst_35 : Ref sig .tc := ⟨.hbm, 81, rfl⟩
abbrev main_while0b_v93 : Ref sig .tc := ⟨.hbm, 82, rfl⟩
abbrev main_while0b_v94 : Ref sig .tc := ⟨.hbm, 83, rfl⟩
abbrev main_while0b_v95 : Ref sig .tc := ⟨.hbm, 84, rfl⟩
abbrev main_while0b_cst_36 : Ref sig .tc := ⟨.hbm, 85, rfl⟩
abbrev main_while0b_v96 : Ref sig .tc := ⟨.hbm, 86, rfl⟩
abbrev main_while0b_v97 : Ref sig .tc := ⟨.hbm, 87, rfl⟩
abbrev main_while0b_v98 : Ref sig .tc := ⟨.hbm, 88, rfl⟩
abbrev main_while0b_v99 : Ref sig .tc := ⟨.hbm, 89, rfl⟩
abbrev main_while0b_v100 : Ref sig .tc := ⟨.hbm, 90, rfl⟩
abbrev main_while0b_cst_37 : Ref sig .tc := ⟨.hbm, 91, rfl⟩
abbrev main_while0b_v101 : Ref sig .tc := ⟨.hbm, 92, rfl⟩
abbrev main_while0b_cst_38 : Ref sig .tc := ⟨.hbm, 93, rfl⟩
abbrev main_while0b_v102 : Ref sig .tc := ⟨.hbm, 94, rfl⟩
abbrev main_while0b_cst_39 : Ref sig .tc := ⟨.hbm, 95, rfl⟩
abbrev main_while0b_v103 : Ref sig .tc := ⟨.hbm, 96, rfl⟩
abbrev main_while0b_v104 : Ref sig .tc := ⟨.hbm, 97, rfl⟩
abbrev main_while0b_c_40 : Ref sig .tc := ⟨.hbm, 98, rfl⟩
abbrev main_while0b_v105 : Ref sig .tc := ⟨.hbm, 99, rfl⟩
abbrev main_while0b_v106 : Ref sig .tc := ⟨.hbm, 100, rfl⟩
abbrev main_while0b_c_41 : Ref sig .tc := ⟨.hbm, 101, rfl⟩
abbrev main_while0b_v107 : Ref sig .tc := ⟨.hbm, 102, rfl⟩
abbrev main_while0b_v108 : Ref sig .tc := ⟨.hbm, 103, rfl⟩
abbrev main_while0b_c_42 : Ref sig .tc := ⟨.hbm, 104, rfl⟩
abbrev main_while0b_v109 : Ref sig .tc := ⟨.hbm, 105, rfl⟩
abbrev main_cst_4 : Ref sig .tc := ⟨.hbm, 106, rfl⟩
abbrev main_v15 : Ref sig .tc := ⟨.hbm, 107, rfl⟩
abbrev main_v16 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_5 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v20 : Ref sig .tc := ⟨.hbm, 116, rfl⟩
abbrev main_c_6 : Ref sig .tc := ⟨.hbm, 117, rfl⟩
abbrev main_v21 : Ref sig .tc := ⟨.hbm, 118, rfl⟩
abbrev main_v22 : Ref sig .tc := ⟨.hbm, 119, rfl⟩
abbrev main_cst_7 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_c_8 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v28 : Ref sig .tc := ⟨.hbm, 130, rfl⟩
abbrev main_c_9 : Ref sig .tc := ⟨.hbm, 131, rfl⟩
abbrev main_v29 : Ref sig .tc := ⟨.hbm, 132, rfl⟩
abbrev main_v30 : Ref sig .tc := ⟨.hbm, 133, rfl⟩
abbrev main_cst_10 : Ref sig .tc := ⟨.hbm, 134, rfl⟩
abbrev main_v31 : Ref sig .tc := ⟨.hbm, 135, rfl⟩
abbrev main_v32 : Ref sig .tc := ⟨.hbm, 136, rfl⟩
abbrev main_cst_11 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_cst_12 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_cst_13 : Ref sig .tc := ⟨.hbm, 148, rfl⟩
abbrev main_v42 : Ref sig .tc := ⟨.hbm, 149, rfl⟩
abbrev main_v43 : Ref sig .tc := ⟨.hbm, 150, rfl⟩
abbrev main_cst_14 : Ref sig .tc := ⟨.hbm, 151, rfl⟩
abbrev main_v44 : Ref sig .tc := ⟨.hbm, 152, rfl⟩
abbrev main_cst_15 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_cst_16 : Ref sig .tc := ⟨.hbm, 164, rfl⟩
abbrev main_v55 : Ref sig .tc := ⟨.hbm, 165, rfl⟩
abbrev main_cst_17 : Ref sig .tc := ⟨.hbm, 166, rfl⟩
abbrev main_v56 : Ref sig .tc := ⟨.hbm, 167, rfl⟩

abbrev nD : Nat := 1
abbrev τ : Topo := Topo.v7x

variable {F : FTy → Type} [FloatOps F]

abbrev main_while0_count : Scf.Loop 32 := ⟨0#32, 6#32, 1#32⟩
-- ==== Proof.Spec.lean ====
module

public import Idealize.ShloMosaic.PureOps.Ideal

@[expose] public section

noncomputable section

/-! The mathematics, on the extended reals: two-centre clustering of one image's pixels by the cosine distance. An image is a
    matrix of 768 features by 1024 pixels, the centres a matrix of 2 by 768. -/

namespace Cert.Spec

open Idealize.ShloMosaic

/-- A matrix of extended reals. -/
abbrev Mat (a b : ℕ) := Fin a → Fin b → EReal

/-- The least length allowed in a division, -/
def eps : EReal := Ideal.ofBits .f32 0x2B8CBCCC#32

/-- one half, -/
def half : EReal := Ideal.ofBits .f32 0x3F000000#32

/-- two, the number of classes, -/
def two : EReal := Ideal.ofBits .f32 0x40000000#32

/-- what the range of the distances is raised by, -/
def tiny : EReal := Ideal.ofBits .f32 0x33D6BF95#32

/-- sixteen, the number of images. -/
def sixteen : EReal := Ideal.ofBits .f32 0x41800000#32

/-- The centres divided by their lengths. -/
def nrm (c : Mat 2 768) : Mat 2 768 := fun k j => Ideal.div (c k j) (max (Ideal.sqrt (∑ x, c k x * c k x)) eps)

/-- The pixels divided by their lengths. -/
def unit (f : Mat 768 1024) : Mat 768 1024 := fun j n => Ideal.div (f j n) (max (Ideal.sqrt (∑ x, f x n * f x n)) eps)

/-- Every pixel's distance from each centre. -/
def dst (u : Mat 768 1024) (c : Mat 2 768) : Mat 2 1024 := fun k n => half * (1 - ∑ x, c k x * u x n)

/-- One where the pixel belongs to the class, zero elsewhere: the first class has the pixels no farther from it than from the second. -/
def msk (d : Mat 2 1024) : Mat 2 1024 := fun k n => if (d 0 n ≤ d 1 n ↔ k = 0) then 1 else 0

/-- The pixel's class. -/
def lab (d : Mat 2 1024) : Fin 1024 → BitVec 32 := fun n => if d 0 n ≤ d 1 n then 0#32 else 1#32

/-- The centres of the classes: the sums of their pixels by one more than their numbers. -/
def mean (f : Mat 768 1024) (m : Mat 2 1024) : Mat 2 768 := fun k j => Ideal.div (∑ n, m k n * f j n) (∑ n, m k n + 1)

/-- The centres after `n` steps. -/
def cen (f : Mat 768 1024) (c : Mat 2 768) : ℕ → Mat 2 768
  | 0 => c
  | n + 1 => mean f (msk (dst (unit f) (nrm (cen f c n))))

/-- The distances of step `n`. -/
def dis (f : Mat 768 1024) (c : Mat 2 768) (n : ℕ) : Mat 2 1024 := dst (unit f) (nrm (cen f c n))

/-- The least and the greatest of a class's distances. -/
def least (d : Mat 2 1024) (k : Fin 2) : EReal := Finset.fold min (Ideal.ofBits .f32 0x7F800000#32) (fun n => d k n) Finset.univ

def most (d : Mat 2 1024) (k : Fin 2) : EReal := Finset.fold max (Ideal.ofBits .f32 0xFF800000#32) (fun n => d k n) Finset.univ

/-- One minus the distances brought to the unit interval. -/
def wgt (d : Mat 2 1024) : Mat 2 1024 := fun k n => 1 - Ideal.div (d k n - least d k) (most d k - least d k + tiny)

/-- The cosine between the centres after one step and before it, in the mean over the classes. -/
def cos (f : Mat 768 1024) (c : Mat 2 768) : EReal := Ideal.div (∑ k, ∑ x, nrm (cen f c 1) k x * nrm c k x) two

end Cert.Spec

end
-- ==== Proof.Feat.lean ====
module

public import Idealize.ShloMosaic.Lib.Pointwise
public import proofs.«01_k».proof.Proof.Spec

@[expose] public section

noncomputable section

/-! The two arguments as matrices. -/

namespace Cert.Spec

open Idealize.ShloMosaic

theorem casts : (⟨4, ![16, 768, 32, 32]⟩ : Shape).ShapeCasts ⟨3, ![16, 768, 1024]⟩ := by decide

/-- The features of image `b`, its 32 by 32 pixels in one row. -/
def feat (x0 : (⟨4, ![16, 768, 32, 32]⟩ : Shape).Idx → EReal) (b : Fin 16) : Mat 768 1024 :=
  fun j n => shapeCast ⟨3, ![16, 768, 1024]⟩ x0 casts (ix3 b j n)

/-- The first centres. -/
def cents (x1 : (⟨2, ![2, 768]⟩ : Shape).Idx → EReal) : Mat 2 768 := fun k j => x1 (ix2 k j)

end Cert.Spec

end
-- ==== Proof.Vocab.lean ====
module

public import proofs.«01_k».proof.Proof.Gen.KernelIdeal.Skeleton

@[expose] public section

noncomputable section

/-! The values one point of the grid computes for one image, each under one name: every image, every step and every
    point of the kernel is these few functions applied to different slabs. -/

namespace Cert.KernelIdeal.Vocab

open Cert.KernelIdeal Cert.KernelIdeal.Gen Idealize.ShloMosaic

variable {F : FTy → Type} [FloatOps F]

/-- Two centres, each divided by its length (or by the least length allowed). -/
def norm2 (x : FVec F S2x768 .f32) : FVec F S2x768 .f32 :=
  divf x (broadcastTo S2x768 (maximumf (sqrt (shapeCast S2x1 (multiReduction .add [1] S2 (mulf x x) 0x00000000#32 reduces_S2x768_S2 (.inl rfl) rfl) shapeCasts_S2_S2x1))
    (broadcast S2x1 (Scalar.ofBits .f32 0x2B8CBCCC#32))) broadcasts_S2x1_S2x768)

/-- One image's features as a matrix. -/
def slab (v : Vec F S1x768x1024 .f32) : FVec F S768x1024 .f32 := shapeCast S768x1024 v shapeCasts_S1x768x1024_S768x1024

/-- The features, each pixel times the reciprocal of its length. -/
def unitF (f : FVec F S768x1024 .f32) : FVec F S768x1024 .bf16 :=
  truncf .bf16 (mulf f (broadcastTo S768x1024 (divf (broadcast S1x1024 (Scalar.ofBits .f32 0x3F800000#32))
    (maximumf (sqrt (shapeCast S1x1024 (multiReduction .add [0] S1024 (mulf f f) 0x00000000#32 reduces_S768x1024_S1024 (.inl rfl) rfl) shapeCasts_S1024_S1x1024))
      (broadcast S1x1024 (Scalar.ofBits .f32 0x2B8CBCCC#32)))) broadcasts_S1x1024_S768x1024)) bitsLt_bf16_f32

/-- The sum of all pixels. -/
def sumAll (f : FVec F S768x1024 .f32) : FVec F S1x768 .f32 :=
  matmul dot_S1x1024_S768x1024_S1x768_1_1_0_0_n_n (some .fp32) (broadcast S1x1024 (Scalar.ofBits .f32 0x3F800000#32)) f (constant S1x768 .f32 0x00000000#32)

/-- The distance of every pixel from each centre. -/
def dist (fn : FVec F S768x1024 .bf16) (c : FVec F S2x768 .f32) : FVec F S2x1024 .f32 :=
  mulf (broadcast S2x1024 (Scalar.ofBits .f32 0x3F000000#32)) (subf (broadcast S2x1024 (Scalar.ofBits .f32 0x3F800000#32))
    (concatenate S2x1024 1
      [⟨S2x512, matmul dot_S2x768_S768x512_S2x512_1_0_0_1_n_n none (truncf .bf16 c bitsLt_bf16_f32) (extractStridedSlice S768x512 ![0, 0] fn slices_S768x1024_o0_0_S768x512) (constant S2x512 .f32 0x00000000#32)⟩,
       ⟨S2x512, matmul dot_S2x768_S768x512_S2x512_1_0_0_1_n_n none (truncf .bf16 c bitsLt_bf16_f32) (extractStridedSlice S768x512 ![0, 512] fn slices_S768x1024_o0_512_S768x512) (constant S2x512 .f32 0x00000000#32)⟩]
      concatenates_S2x512_S2x512_S2x1024_d1))

/-- Whether a pixel is no farther from the first centre than from the second. -/
def near0 (d : FVec F S2x1024 .f32) : IVec S1x1024 1 :=
  cmpf .ole (extractStridedSlice S1x1024 ![0, 0] d slices_S2x1024_o0_0_S1x1024) (extractStridedSlice S1x1024 ![1, 0] d slices_S2x1024_o1_0_S1x1024)

/-- The same as a number, one or zero. -/
def mask0 (d : FVec F S2x1024 .f32) : FVec F S1x1024 .f32 := sitofp .f32 (extui 32 (near0 d) natLt_1_32)

/-- The sum of the pixels nearer the first centre. -/
def sums0 (f : FVec F S768x1024 .f32) (m : FVec F S1x1024 .f32) : FVec F S1x768 .f32 :=
  concatenate S1x768 1
    [⟨S1x384, matmul dot_S1x1024_S384x1024_S1x384_1_1_0_0_n_n (some .fp32) m (extractStridedSlice S384x1024 ![0, 0] f slices_S768x1024_o0_0_S384x1024) (constant S1x384 .f32 0x00000000#32)⟩,
     ⟨S1x384, matmul dot_S1x1024_S384x1024_S1x384_1_1_0_0_n_n (some .fp32) m (extractStridedSlice S384x1024 ![384, 0] f slices_S768x1024_o384_0_S384x1024) (constant S1x384 .f32 0x00000000#32)⟩]
    concatenates_S1x384_S1x384_S1x768_d1

/-- The number of pixels nearer the first centre. -/
def count0 (m : FVec F S1x1024 .f32) : FVec F S1x1 .f32 :=
  shapeCast S1x1 (multiReduction .add [1] S1 m 0x00000000#32 reduces_S1x1024_S1 (.inl rfl) rfl) shapeCasts_S1_S1x1

/-- The two new centres, of the first class's sum, its count and the sum of all pixels. -/
def newOf (sa s : FVec F S1x768 .f32) (n : FVec F S1x1 .f32) : FVec F S2x768 .f32 :=
  divf (concatenate S2x768 0 [⟨S1x768, s⟩, ⟨S1x768, subf sa s⟩] concatenates_S1x768_S1x768_S2x768_d0)
    (broadcastTo S2x768 (addf (concatenate S2x1 0 [⟨S1x1, n⟩, ⟨S1x1, subf (broadcast S1x1 (Scalar.ofBits .f32 0x44800000#32)) n⟩] concatenates_S1x1_S1x1_S2x1_d0)
      (broadcast S2x1 (Scalar.ofBits .f32 0x3F800000#32))) broadcasts_S2x1_S2x768)

/-- The labels: zero nearer the first centre, one otherwise. -/
def labelOf (b : IVec S1x1024 1) : IVec S1x1024 32 := select b (broadcast S1x1024 0#32) (broadcast S1x1024 1#32)

/-- The two classes' masks. -/
def hot (m : FVec F S1x1024 .f32) : FVec F S2x1024 .f32 :=
  concatenate S2x1024 0 [⟨S1x1024, m⟩, ⟨S1x1024, subf (broadcast S1x1024 (Scalar.ofBits .f32 0x3F800000#32)) m⟩] concatenates_S1x1024_S1x1024_S2x1024_d0

/-- One minus the distances brought to the unit interval. -/
def weightOf (d : FVec F S2x1024 .f32) : FVec F S2x1024 .f32 :=
  subf (broadcast S2x1024 (Scalar.ofBits .f32 0x3F800000#32))
    (divf (subf d (broadcastTo S2x1024 (shapeCast S2x1 (multiReduction .minimumf [1] S2 d 0x7F800000#32 reduces_S2x1024_S2 (.inl rfl) rfl) shapeCasts_S2_S2x1) broadcasts_S2x1_S2x1024))
      (broadcastTo S2x1024 (addf (subf (shapeCast S2x1 (multiReduction .maximumf [1] S2 d 0xFF800000#32 reduces_S2x1024_S2 (.inl rfl) rfl) shapeCasts_S2_S2x1)
        (shapeCast S2x1 (multiReduction .minimumf [1] S2 d 0x7F800000#32 reduces_S2x1024_S2 (.inl rfl) rfl) shapeCasts_S2_S2x1))
        (broadcast S2x1 (Scalar.ofBits .f32 0x33D6BF95#32))) broadcasts_S2x1_S2x1024))

/-- The mean over the two classes of the inner products of `a`'s and `b`'s centres. -/
def meanDot (a b : FVec F S2x768 .f32) : F .f32 :=
  Scalar.divf (extractAt ![0, 0] (shapeCast S1x1 (multiReduction .add [1] S1 (shapeCast S1x2 (multiReduction .add [1] S2 (mulf a b) 0x00000000#32 reduces_S2x768_S2 (.inl rfl) rfl) shapeCasts_S2_S1x2) 0x00000000#32 reduces_S1x2_S1 (.inl rfl) rfl) shapeCasts_S1_S1x1) inpos_S1x1_p0_0)
    (Scalar.ofBits .f32 0x40000000#32)

/-- The new centres of an image, of the centres before (each of length one). -/
def newC (f : FVec F S768x1024 .f32) (c : FVec F S2x768 .f32) : FVec F S2x768 .f32 :=
  newOf (sumAll f) (sums0 f (mask0 (dist (unitF f) c))) (count0 (mask0 (dist (unitF f) c)))

/-- The centres of length one after `n` steps. -/
def cent (f : FVec F S768x1024 .f32) (c : FVec F S2x768 .f32) : ℕ → FVec F S2x768 .f32
  | 0 => norm2 c
  | n + 1 => norm2 (newC f (cent f c n))

/-- The distances of step `n`. -/
def distN (f : FVec F S768x1024 .f32) (c : FVec F S2x768 .f32) (n : ℕ) : FVec F S2x1024 .f32 := dist (unitF f) (cent f c n)

end Cert.KernelIdeal.Vocab

end
-- ==== Proof.Ker.lean ====
module

public import Idealize.ShloMosaic.Lib.Pointwise
public import Idealize.ShloMosaic.Lib.IdealHost
public import proofs.«01_k».proof.Proof.Vocab
public import proofs.«01_k».proof.Proof.Spec

@[expose] public section

noncomputable section

/-! What the kernel computes for one image, on the extended reals: the mathematics of `Spec`. -/

namespace Cert.Ker

open Cert.KernelIdeal Cert.KernelIdeal.Gen Idealize.ShloMosaic

/-- An array of two dimensions as a matrix. -/
def mat {a b : ℕ} (v : (⟨2, ![a, b]⟩ : Shape).Idx → EReal) : Spec.Mat a b := fun i j => v (ix2 i j)

/-- A number neither infinity. -/
def Fin' (x : EReal) : Prop := x ≠ ⊤ ∧ x ≠ ⊥

theorem fin_sum {n : ℕ} (s : Finset (Fin n)) (g : Fin n → EReal) (h : ∀ i, Fin' (g i)) : Fin' (∑ i ∈ s, g i) := by
  induction s using Finset.induction with
  | empty => exact ⟨EReal.zero_ne_top, EReal.zero_ne_bot⟩
  | insert a s ha ih =>
    rw [Finset.sum_insert ha]
    exact ⟨EReal.add_ne_top (h a).1 ih.1, by rw [ne_eq, EReal.add_eq_bot_iff]; exact not_or.mpr ⟨(h a).2, ih.2⟩⟩

theorem add_sub_left {a b : EReal} (h : Fin' a) : a + b - a = b := by
  lift a to ℝ using h
  exact EReal.add_sub_cancel_left

theorem eps_pos : 0 < Spec.eps := by
  simp [Spec.eps, Ideal.ofBits, Ideal.ieee, -EReal.coe_mul]

theorem n_bits : Ideal.ofBits .f32 0x44800000#32 = 1024 := by
  simp [Ideal.ofBits, Ideal.ieee, -EReal.coe_mul]; norm_num; rfl

/-- The two classes' masks of a pixel are one and zero or zero and one. -/
theorem msk_add (d : Spec.Mat 2 1024) (n : Fin 1024) (x : EReal) : x = Spec.msk d 0 n * x + Spec.msk d 1 n * x := by
  by_cases h : d 0 n ≤ d 1 n <;> simp [Spec.msk, h]

theorem msk_fin (d : Spec.Mat 2 1024) (k : Fin 2) (n : Fin 1024) {x : EReal} (h : Fin' x) : Fin' (Spec.msk d k n * x) := by
  unfold Spec.msk
  split
  · rwa [one_mul]
  · rw [zero_mul]; exact ⟨EReal.zero_ne_top, EReal.zero_ne_bot⟩

/-- All less the first class's is the second class's. -/
theorem rest (d : Spec.Mat 2 1024) (g : Fin 1024 → EReal) (h : ∀ n, Fin' (g n)) :
    (∑ n, g n) - ∑ n, Spec.msk d 0 n * g n = ∑ n, Spec.msk d 1 n * g n := by
  rw [Finset.sum_congr rfl fun n _ => msk_add d n (g n), Finset.sum_add_distrib]
  exact add_sub_left (fin_sum _ _ fun n => msk_fin d 0 n (h n))

theorem rest_count (d : Spec.Mat 2 1024) : (1024 : EReal) - ∑ n, Spec.msk d 0 n = ∑ n, Spec.msk d 1 n := by
  have h := rest d (fun _ => 1) fun _ => ⟨EReal.coe_ne_top 1, EReal.coe_ne_bot 1⟩
  simp only [mul_one] at h
  rw [← h]
  rw [Finset.sum_const, Finset.card_univ, Fintype.card_fin]
  have e : (1024 : ℕ) • (1 : EReal) = 1024 := (EReal.nsmul_eq_mul 1024 (1 : EReal)).trans (mul_one _)
  rw [e]

theorem norm2_eq (c : FVec Ideal S2x768 .f32) : mat (Vocab.norm2 c) = Spec.nrm (mat c) := by
  funext k j
  unfold mat Spec.nrm
  pointwise [Vocab.norm2]
  rfl

theorem unit_eq (f : FVec Ideal S768x1024 .f32) : mat (Vocab.unitF f) = Spec.unit (mat f) := by
  funext j n
  unfold mat Spec.unit
  pointwise [Vocab.unitF]
  exact Idealize.ShloMosaic.Ideal.mul_one_div (ne_of_gt (lt_of_lt_of_le eps_pos (le_max_right _ _)))

theorem dist_eq (u : FVec Ideal S768x1024 .bf16) (c : FVec Ideal S2x768 .f32) : mat (Vocab.dist u c) = Spec.dst (mat u) (mat c) := by
  funext k n
  unfold mat Spec.dst
  pointwise [Vocab.dist]
  refine congrArg (fun x => Spec.half * (1 - x)) ?_
  split
  · rfl
  · next h =>
    have e : (⟨512 + (n.val - 512), by omega⟩ : Fin 1024) = n := Fin.ext (by simp only; omega)
    exact Finset.sum_congr rfl fun x _ => congrArg (fun i => c (ix2 k x) * u (ix2 x i)) e

theorem mask_eq (d : FVec Ideal S2x1024 .f32) (n : Fin 1024) : Vocab.mask0 d (ix2 0 n) = Spec.msk (mat d) 0 n := by
  pointwise [Vocab.mask0, Vocab.near0]
  unfold Spec.msk mat
  by_cases h : d (ix2 0 n) ≤ d (ix2 1 n) <;> simp [h, FloatOps.sitofp]

theorem hot_eq (d : FVec Ideal S2x1024 .f32) (k : Fin 2) (n : Fin 1024) : Vocab.hot (Vocab.mask0 d) (ix2 k n) = Spec.msk (mat d) k n := by
  pointwise [Vocab.hot]
  by_cases hk : k = 0
  · subst hk
    exact mask_eq d n
  · obtain rfl : k = 1 := by omega
    refine (congrArg (fun x : EReal => 1 - x) (mask_eq d n)).trans ?_
    by_cases h : mat d 0 n ≤ mat d 1 n <;> simp [Spec.msk, h]
    exact EReal.sub_self (EReal.coe_ne_top 1) (EReal.coe_ne_bot 1)

theorem label_eq (d : FVec Ideal S2x1024 .f32) (n : Fin 1024) : Vocab.labelOf (Vocab.near0 d) (ix2 0 n) = Spec.lab (mat d) n := by
  pointwise [Vocab.labelOf, Vocab.near0]
  rfl

theorem weight_eq (d : FVec Ideal S2x1024 .f32) : mat (Vocab.weightOf d) = Spec.wgt (mat d) := by
  funext k n
  unfold mat
  pointwise [Vocab.weightOf]
  rfl

theorem dot_eq (a b : FVec Ideal S2x768 .f32) : Vocab.meanDot a b = Ideal.div (∑ k, ∑ x, mat a k x * mat b k x) Spec.two := by
  pointwise [Vocab.meanDot]
  rfl

theorem sums_eq (f : FVec Ideal S768x1024 .f32) (m : FVec Ideal S1x1024 .f32) (j : Fin 768) :
    Vocab.sums0 f m (ix2 0 j) = ∑ n, m (ix2 0 n) * f (ix2 j n) := by
  pointwise [Vocab.sums0]
  split
  · rfl
  · next h =>
    have e : (⟨384 + (j.val - 384), by omega⟩ : Fin 768) = j := Fin.ext (by simp only; omega)
    exact Finset.sum_congr rfl fun n _ => congrArg (fun i => m (ix2 0 n) * f (ix2 i n)) e

/-- The new centres, where the features are finite. -/
theorem newC_eq (f : FVec Ideal S768x1024 .f32) (c : FVec Ideal S2x768 .f32) (h : ∀ j n, Fin' (mat f j n)) :
    mat (Vocab.newC f c) = Spec.mean (mat f) (Spec.msk (Spec.dst (Spec.unit (mat f)) (mat c))) := by
  rw [← unit_eq, ← dist_eq]
  funext k j
  unfold mat Vocab.newC
  generalize Vocab.dist (Vocab.unitF f) c = d
  have hs := sums_eq f (Vocab.mask0 d) j
  have hc : Vocab.count0 (Vocab.mask0 d) (ix2 0 0) = ∑ n, Spec.msk (mat d) 0 n := by
    simp only [← mask_eq]
    pointwise [Vocab.count0]
  have ha : Vocab.sumAll f (ix2 0 j) = ∑ n, f (ix2 j n) := by
    pointwise [Vocab.sumAll]
  simp only [mask_eq] at hs
  pointwise [Vocab.newOf]
  by_cases hk : k = 0
  · subst hk
    exact congrArg₂ (fun x y : EReal => Ideal.div x (y + 1)) hs hc
  · obtain rfl : k = 1 := by omega
    refine congrArg₂ (fun x y : EReal => Ideal.div x (y + 1)) ?_ ?_
    · exact (congrArg₂ (fun x y : EReal => x - y) ha hs).trans (rest (mat d) (fun n => f (ix2 j n)) (h j))
    · exact (congrArg₂ (fun x y : EReal => x - y) n_bits hc).trans (rest_count (mat d))

variable (f : FVec Ideal S768x1024 .f32) (c : FVec Ideal S2x768 .f32) (h : ∀ j n, Fin' (mat f j n))
include h

/-- The centres of length one after `n` steps, -/
theorem cent_eq (n : ℕ) : mat (Vocab.cent f c n) = Spec.nrm (Spec.cen (mat f) (mat c) n) := by
  induction n with
  | zero => exact norm2_eq c
  | succ n ih => rw [Vocab.cent, norm2_eq, newC_eq f _ h, ih]; rfl

/-- the centres after a step, -/
theorem new_eq (n : ℕ) : mat (Vocab.newC f (Vocab.cent f c n)) = Spec.cen (mat f) (mat c) (n + 1) := by
  rw [newC_eq f _ h, cent_eq f c h]; rfl

/-- and its distances. -/
theorem dis_eq (n : ℕ) : mat (Vocab.distN f c n) = Spec.dis (mat f) (mat c) n := by
  rw [Vocab.distN, dist_eq, unit_eq, cent_eq f c h]; rfl

end Cert.Ker

end
-- ==== Proof.Ref.lean ====
module

public import Idealize.ShloMosaic.Lib.Pointwise
public import Idealize.ShloMosaic.Lib.ValueIdx
public import proofs.«01_k».proof.Proof.Gen.ReferenceIdeal.Step
public import proofs.«01_k».proof.Proof.Feat

@[expose] public section

noncomputable section

/-! What the reference computes: every image's centres, distances and cosine are the mathematics of `Spec` on that image. -/

namespace Cert.Ref

open Cert.ReferenceIdeal Cert.ReferenceIdeal.Step Cert.ReferenceIdeal.Gen Idealize.ShloMosaic

/-- The centres, the distances of an image in a state. -/
def cenAt (s : State Ideal) (b : Fin 16) : Spec.Mat 2 768 := fun k j => s.main_v14_4 (ix3 b k j)

def disAt (d : S16x1024x2.Idx → EReal) (b : Fin 16) : Spec.Mat 2 1024 := fun k n => d (ix3 b n k)

/-- The literal of the greatest value. -/
theorem inf_bits : Ideal.ofBits .f32 0x7F800000#32 = ⊤ := by
  simp [Ideal.ofBits, Ideal.ieee]

/-- The first of two classes at which the least distance is attained is the first class where its distance is no greater, otherwise the second. -/
theorem nearest (d : Fin 2 → EReal) :
    Finset.fold IntOp.minsi 2147483647#32
      (fun x : Fin 2 => if d x = Finset.fold min (Ideal.ofBits .f32 0x7F800000#32) d Finset.univ then BitVec.ofNat 32 x.val else 2#32) Finset.univ
      = if d 0 ≤ d 1 then 0#32 else 1#32 := by
  have e : (Finset.univ : Finset (Fin 2)) = insert 0 {1} := by decide
  rw [inf_bits, e, Finset.fold_insert (by decide), Finset.fold_insert (by decide), Finset.fold_singleton, Finset.fold_singleton, min_top_right]
  by_cases h : d 0 ≤ d 1
  · rw [min_eq_left h, if_pos rfl, if_pos h]
    by_cases h' : d 1 = d 0
    · rw [if_pos h']; decide
    · rw [if_neg h']; decide
  · have h1 : d 1 ≤ d 0 := (not_le.mp h).le
    rw [min_eq_right h1, if_pos rfl, if_neg h, if_neg (fun e => h e.le)]
    decide

/-- Comparing the class with a number and reading the answer as one or zero gives the class's mask. -/
theorem hot_eq (p : Prop) [Decidable p] (k : Fin 2) :
    (FloatOps.uitofp (F := Ideal) .f32 (IntOp.cmpi .eq (if p then 0#32 else 1#32) (BitVec.ofNat 32 k.val)) : EReal) = if (p ↔ k = 0) then 1 else 0 := by
  by_cases hp : p <;> fin_cases k <;> simp [hp, IntOp.cmpi, FloatOps.uitofp]

theorem b11_eq (t : ℕ) (s : State Ideal) (b : Fin 16) : (fun k j => b11 t s (ix3 b k j)) = Spec.nrm (cenAt s b) := by
  funext k j
  pointwise [b11, b10, b9, b8, b7, b6, b5, b4, b3, b2]
  rfl

/-- The distances of a step, -/
theorem b18_eq (t : ℕ) (s : State Ideal) (b : Fin 16) :
    disAt (b18 t s) b = Spec.dst (fun j n => s.main_v14_0 (ix3 b n j)) (Spec.nrm (cenAt s b)) := by
  rw [← b11_eq t]
  funext k n
  unfold disAt Spec.dst
  pointwise [b12, b13, b14, b15, b16, b17, b18]
  exact congrArg (fun x => Spec.half * (1 - x)) (Finset.sum_congr rfl fun x _ => mul_comm _ _)

/-- its masks, -/
theorem b38_eq (t : ℕ) (s : State Ideal) (b : Fin 16) (k : Fin 2) (n : Fin 1024) :
    b38 t s (ix3 b n k) = Spec.msk (disAt (b18 t s) b) k n := by
  pointwise [b19, b20, b21, b22, b23, b24, b25, b26, b27, b28, b29, b30, b31, b32, b33, b34, b35, b36, b37, b38]
  rw [nearest]
  exact hot_eq _ k

/-- the centres after it, -/
theorem b47_eq (t : ℕ) (s : State Ideal) (b : Fin 16) :
    (fun k j => b47 t s (ix3 b k j)) = Spec.mean (fun j n => s.main_v14_1 (ix3 b n j)) (Spec.msk (disAt (b18 t s) b)) := by
  funext k j
  pointwise [b39, b40, b41, b42, b43, b44, b45, b46, b47]
  simp only [b38_eq]
  rfl

/-- the cosine between the centres before and after. -/
theorem b65_eq (t : ℕ) (s : State Ideal) (b : Fin 16) :
    b65 t s (ix1 b) = Ideal.div (∑ k, ∑ j, Spec.nrm (fun k j => b47 t s (ix3 b k j)) k j * Spec.nrm (cenAt s b) k j) Spec.two := by
  rw [← b11_eq t]
  pointwise [b48, b49, b50, b51, b52, b53, b54, b55, b56, b57, b58, b59, b60, b61, b62, b63, b64, b65]
  rfl

/-- A step's number, as the program counts it, is zero at the first step only. -/
theorem count_ne (n : ℕ) (h : n + 1 < 2 ^ 32) : IntOp.cmpi .eq (BitVec.ofNat 32 (n + 1)) 0#32 = 0#1 := by
  have : BitVec.ofNat 32 (n + 1) ≠ 0#32 := by
    intro e
    have := congrArg BitVec.toNat e
    rw [BitVec.toNat_ofNat, Nat.mod_eq_of_lt h] at this
    exact absurd this (Nat.succ_ne_zero n)
  show BitVec.ofBool (BitVec.ofNat 32 (n + 1) == 0#32) = 0#1
  rw [beq_eq_false_iff_ne.mpr this]
  rfl

variable (x0 : S16x768x32x32.Idx → EReal) (x1 : S2x768.Idx → EReal)

theorem A0_eq (b : Fin 16) : (fun j n => A_main_v0 (F := Ideal) x0 x1 (ix3 b j n)) = Spec.feat x0 b := rfl

theorem A1_eq (b : Fin 16) : (fun j n => A_main_v1 (F := Ideal) x0 x1 (ix3 b n j)) = Spec.feat x0 b := by
  rw [← A0_eq x0 x1]
  funext j n
  pointwise [A_main_v1]

theorem A9_eq (b : Fin 16) : (fun j n => A_main_v9 (F := Ideal) x0 x1 (ix3 b n j)) = Spec.unit (Spec.feat x0 b) := by
  rw [← A0_eq x0 x1]
  funext j n
  pointwise [A_main_v9, A_main_v8, A_main_v7, A_main_v5, A_main_v4, A_main_v3, A_main_v2, A_main_v1, K_main_v6, K_main_cst, K_main_cst_0]
  rfl

theorem A12_eq (b : Fin 16) : (fun k j => A_main_v12 (F := Ideal) x0 x1 (ix3 b k j)) = Spec.cents x1 := by
  funext k j
  pointwise [A_main_v12, A_main_v11]
  rfl

variable (it : ℕ → State Ideal) (h0 : it 0 = init x0 x1) (hs : ∀ n, it (n + 1) = step n (it n))
include h0 hs

/-- What no step changes. -/
theorem const_at (n : ℕ) : (it n).main_v14_0 = A_main_v9 x0 x1 ∧ (it n).main_v14_1 = A_main_v1 x0 x1 := by
  induction n with
  | zero => rw [h0]; exact ⟨rfl, rfl⟩
  | succ n ih => rw [hs]; exact ih

/-- The distances of step `n` are those of the centres before it. -/
theorem dis_step (n : ℕ) (b : Fin 16) (h : cenAt (it n) b = Spec.cen (Spec.feat x0 b) (Spec.cents x1) n) :
    disAt (b18 n (it n)) b = Spec.dis (Spec.feat x0 b) (Spec.cents x1) n := by
  rw [b18_eq, h, (const_at x0 x1 it h0 hs n).1, A9_eq]
  rfl

/-- The centres after `n` steps. -/
theorem cen_at (n : ℕ) (b : Fin 16) : cenAt (it n) b = Spec.cen (Spec.feat x0 b) (Spec.cents x1) n := by
  induction n with
  | zero => rw [h0]; exact A12_eq x0 x1 b
  | succ n ih =>
    rw [hs]
    refine (b47_eq n (it n) b).trans ?_
    rw [dis_step x0 x1 it h0 hs n b ih, (const_at x0 x1 it h0 hs n).2, A1_eq]
    rfl

/-- The distances of the last of `n + 1` steps. -/
theorem dis_at (n : ℕ) (b : Fin 16) : disAt (it (n + 1)).main_v14_5 b = Spec.dis (Spec.feat x0 b) (Spec.cents x1) n := by
  rw [hs, step_main_v14_5]
  exact dis_step x0 x1 it h0 hs n b (cen_at x0 x1 it h0 hs n b)

/-- The first step's distances are kept, -/
theorem first_dis (n : ℕ) (hn : n < 6) : (it (n + 1)).main_v14_6 = b18 0 (it 0) := by
  induction n with
  | zero =>
    rw [hs, step_main_v14_6]
    funext i
    rfl
  | succ n ih =>
    rw [hs, step_main_v14_6]
    refine Eq.trans ?_ (ih (by omega))
    funext i
    show Scalar.select (IntOp.cmpi .eq (BitVec.ofNat 32 (n + 1)) 0#32) _ _ = _
    rw [count_ne n (by omega)]
    rfl

/-- and its cosine. -/
theorem first_cos (n : ℕ) (hn : n < 6) : (it (n + 1)).main_v14_7 = b65 0 (it 0) := by
  induction n with
  | zero =>
    rw [hs, step_main_v14_7]
    funext i
    rfl
  | succ n ih =>
    rw [hs, step_main_v14_7]
    refine Eq.trans ?_ (ih (by omega))
    funext i
    show Scalar.select (IntOp.cmpi .eq (BitVec.ofNat 32 (n + 1)) 0#32) _ _ = _
    rw [count_ne n (by omega)]
    rfl

/-- The results. The centres, -/
theorem centers_eq (k : Fin 2) (j : Fin 768) :
    R_main_v46 (it 6) (ix2 k j) = Ideal.div (∑ b, Spec.cen (Spec.feat x0 b) (Spec.cents x1) 6 k j) Spec.sixteen := by
  pointwise [R_main_v46]
  exact congrArg (Ideal.div · Spec.sixteen) (Finset.sum_congr rfl fun b _ => congrFun (congrFun (cen_at x0 x1 it h0 hs 6 b) k) j)

/-- the labels, -/
theorem labels_eq (b : Fin 16) (n : Fin 1024) :
    R_main_v47 (it 6) (ix2 b n) = Spec.lab (Spec.dis (Spec.feat x0 b) (Spec.cents x1) 5) n := by
  rw [← dis_at x0 x1 it h0 hs 5 b]
  pointwise [R_main_v47]
  exact nearest _

/-- the first step's labels, -/
theorem labelP_eq (b : Fin 16) (n : Fin 1024) :
    R_main_v54 (it 6) (ix2 b n) = Spec.lab (Spec.dis (Spec.feat x0 b) (Spec.cents x1) 0) n := by
  rw [← dis_step x0 x1 it h0 hs 0 b (cen_at x0 x1 it h0 hs 0 b), ← first_dis x0 x1 it h0 hs 5 (by omega)]
  pointwise [R_main_v54]
  exact nearest _

/-- the masks, -/
theorem hot_at (b : Fin 16) (n : Fin 1024) (k : Fin 2) :
    R_main_v53 (it 6) (ix3 b n k) = Spec.msk (Spec.dis (Spec.feat x0 b) (Spec.cents x1) 5) k n := by
  rw [← dis_at x0 x1 it h0 hs 5 b]
  pointwise [R_main_v53]
  exact (congrArg (fun x => FloatOps.uitofp (F := Ideal) .f32 (IntOp.cmpi .eq x (BitVec.ofNat 32 k.val))) (nearest _)).trans (hot_eq _ k)

/-- the weights, -/
theorem weight_eq (b : Fin 16) (n : Fin 1024) (k : Fin 2) :
    R_main_v43 (it 6) (ix3 b n k) = Spec.wgt (Spec.dis (Spec.feat x0 b) (Spec.cents x1) 5) k n := by
  rw [← dis_at x0 x1 it h0 hs 5 b]
  pointwise [R_main_v43]
  rfl

/-- the mean cosine. -/
theorem cini_eq : R_main_v56 (it 6) ix0 = Ideal.div (∑ b, Spec.cos (Spec.feat x0 b) (Spec.cents x1)) Spec.sixteen := by
  pointwise [R_main_v56]
  refine congrArg (Ideal.div · Spec.sixteen) (Finset.sum_congr rfl fun b _ => ?_)
  rw [first_cos x0 x1 it h0 hs 5 (by omega), b65_eq, ← show cenAt (it 1) b = fun k j => b47 0 (it 0) (ix3 b k j) by rw [hs]; rfl,
    cen_at x0 x1 it h0 hs 1 b, cen_at x0 x1 it h0 hs 0 b]
  rfl

end Cert.Ref

end
-- ==== Proof.Finite.lean ====
module

public import proofs.«01_k».proof.Pre_finite
public import proofs.«01_k».proof.Proof.Feat
public import proofs.«01_k».proof.Proof.Ker
public import proofs.«01_k».proof.Proof.Ref

@[expose] public section

noncomputable section

/-! The precondition read: every feature is a real number. -/

namespace Cert.Finite

open Idealize.ShloMosaic

/-- The shape relation the precondition states. -/
theorem facts : Cert.Pre_finite.Facts := ⟨by decide⟩

/-- An extended real whose absolute value is below infinity is neither infinity. -/
theorem of_abs {x : EReal} (h : max x (-x) < ⊤) : Ker.Fin' x :=
  ⟨ne_of_lt ((le_max_left _ _).trans_lt h), fun e => absurd h (by simp [e])⟩

/-- Where the precondition holds, every entry of the features is finite. -/
theorem entry {x0 : (⟨4, ![16, 768, 32, 32]⟩ : Shape).Idx → EReal} {x1 : (⟨2, ![2, 768]⟩ : Shape).Idx → EReal}
    (h : @Cert.Pre_finite.fn facts Ideal _ x0 x1 = fun _ => 1#1) (i : (⟨4, ![16, 768, 32, 32]⟩ : Shape).Idx) : Ker.Fin' (x0 i) := by
  have e := congrFun h i
  simp only [Cert.Pre_finite.fn, cmpf, broadcastInDim, constant] at e
  have e' : BitVec.ofBool (decide (max (x0 i) (-(x0 i)) < Ideal.ofBits .f32 0x7F800000#32)) = 1#1 := e
  rw [Cert.Ref.inf_bits] at e'
  refine of_abs (by_contra fun hn => ?_)
  rw [decide_eq_false hn] at e'
  exact absurd e' (by decide)

/-- The features as matrices have the entries of the argument. -/
theorem feat {x0 : (⟨4, ![16, 768, 32, 32]⟩ : Shape).Idx → EReal} (h : ∀ i, Ker.Fin' (x0 i)) (b : Fin 16) (j : Fin 768) (n : Fin 1024) :
    Ker.Fin' (Spec.feat x0 b j n) := h _

end Cert.Finite

end
-- ==== Proof.Block.lean ====
module

public import proofs.«01_k».proof.Proof.Gen.KernelIdeal.Frame
public import Idealize.ShloMosaic.Lib.Pipeline.Value
public import Idealize.ShloMosaic.Lib.Pipeline.ValueKit.Basic
public import Idealize.ShloMosaic.Lib.Pipeline.ValueKit.Tiles
public import Idealize.ShloMosaic.Lib.ValueIdx
public import Idealize.ShloMosaic.Lib.Tactic
public import proofs.«01_k».proof.Proof.Vocab

@[expose] public section

noncomputable section

/-! What one point of the grid leaves in its six results: the four images of its block, each by itself, and the two sums it adds to. -/

namespace Cert.KernelIdeal.Block

open Cert.KernelIdeal.Vocab Cert.KernelIdeal Cert.KernelIdeal.Gen Idealize.ShloMosaic Idealize.ShloMosaic.TcCoe Idealize.SL.Sem

/-- The `i`-th of four slabs lies inside the block. -/
theorem inb4 {a b : ℕ} (i : Fin 4) : ∀ x : Fin 3, (![i.val, 0, 0] : Fin 3 → ℕ) x + (![1, a, b] : Fin 3 → ℕ) x ≤ (![4, a, b] : Fin 3 → ℕ) x := by
  intro x
  fin_cases x
  · show i.val + 1 ≤ 4; omega
  · show 0 + a ≤ a; omega
  · show 0 + b ≤ b; omega

variable {F : FTy → Type} [FloatOps F]

/-- The rectangle of the `i`-th slab of a block of four. -/
def row (a b : ℕ) (i : Fin 4) : Rect (⟨3, ![4, a, b]⟩ : Shape) := Rect.unit (s := ⟨3, ![4, a, b]⟩) ![i.val, 0, 0] ![1, a, b] (inb4 i)

/-- An index of the block seen from its own slab. -/
def inRow {a b : ℕ} (j : (⟨3, ![4, a, b]⟩ : Shape).Idx) : (⟨3, ![1, a, b]⟩ : Shape).Idx := ValueIdx.ix3 0 (j 1) (j 2)

theorem row_emb {a b : ℕ} (i : Fin 4) (x : (⟨3, ![1, a, b]⟩ : Shape).Idx) : (row a b i).emb x = ValueIdx.ix3 i (x 1) (x 2) := by
  funext d
  apply Fin.ext
  fin_cases d
  · show ((row a b i).idx x 0 : ℕ) = i.val
    refine (Rect.idx_unit_val ..).trans ?_
    show i.val + (x 0).val = i.val
    have : (x 0).val < 1 := (x 0).isLt
    omega
  · exact (Rect.idx_unit_val ..).trans (Nat.zero_add _)
  · exact (Rect.idx_unit_val ..).trans (Nat.zero_add _)

/-- A block of four slabs, of each slab's contents. -/
def stack {a b : ℕ} {e : EltTy} (P : Fin 4 → Vec F (⟨3, ![1, a, b]⟩ : Shape) e) : Vec F (⟨3, ![4, a, b]⟩ : Shape) e := fun j => P (j 0) (inRow j)

/-- Four stores of a slab each leave the block of those slabs. -/
theorem canon_stack {a b : ℕ} {e : EltTy} (P : Fin 4 → Vec F (⟨3, ![1, a, b]⟩ : Shape) e) :
    View.canon (Val := Elt F) (s := (⟨3, ![4, a, b]⟩ : Shape)) (e := e) [⟨row a b 3, P 3⟩, ⟨row a b 2, P 2⟩, ⟨row a b 1, P 1⟩, ⟨row a b 0, P 0⟩] = stack P := by
  funext j
  have piece : ∀ i : Fin 4, ∀ x : (⟨3, ![1, a, b]⟩ : Shape).Idx, P i x = stack P ((row a b i).emb x) := by
    intro i x
    rw [row_emb]
    refine congrArg (P i) (funext fun d => ?_)
    fin_cases d
    · exact Subsingleton.elim (α := Fin 1) _ _
    · rfl
    · rfl
  refine View.canon_apply_of_pieces (stack P) _ ?_ j ?_
  · intro p hp
    simp only [List.mem_cons, List.not_mem_nil, or_false] at hp
    rcases hp with rfl | rfl | rfl | rfl
    · exact piece 3
    · exact piece 2
    · exact piece 1
    · exact piece 0
  · have hj : ∀ i : Fin 4, j 0 = i → j ∈ (row a b i).set := by
      rintro i rfl
      have h : (row a b (j 0)).emb (inRow j) ∈ (row a b (j 0)).set := by
        rw [← Rect.map_emb_univ]
        exact Finset.mem_map_of_mem _ (Finset.mem_univ _)
      have e : (row a b (j 0)).emb (inRow j) = j := (row_emb (j 0) (inRow j)).trans (ValueIdx.eq_ix3 j).symm
      exact e ▸ h
    have : ∀ i : Fin 4, j ∈ (row a b i).set → ∃ p ∈ [(⟨row a b 3, P 3⟩ : View.Piece (Elt F) (⟨3, ![4, a, b]⟩ : Shape) e), ⟨row a b 2, P 2⟩, ⟨row a b 1, P 1⟩, ⟨row a b 0, P 0⟩], j ∈ p.1.set := by
      intro i hi
      fin_cases i
      · exact ⟨⟨row a b 0, P 0⟩, by simp, hi⟩
      · exact ⟨⟨row a b 1, P 1⟩, by simp, hi⟩
      · exact ⟨⟨row a b 2, P 2⟩, by simp, hi⟩
      · exact ⟨⟨row a b 3, P 3⟩, by simp, hi⟩
    exact this (j 0) (hj _ rfl)

/-- The features of one image of the block, as a matrix. -/
def img (x0 : Vec F S4x768x1024 .f32) (i : Fin 4) : FVec F S768x1024 .f32 := slab (View.ld x0 (row 768 1024 i))

/-- The labels of the block after the last step. -/
def labels (x0 : Vec F S4x768x1024 .f32) (c : Vec F S2x768 .f32) (n : ℕ) : Vec F S4x1x1024 .i32 :=
  stack fun i => shapeCast S1x1x1024 (labelOf (near0 (distN (img x0 i) c n))) shapeCasts_S1x1024_S1x1x1024

/-- The masks of the block. -/
def hots (x0 : Vec F S4x768x1024 .f32) (c : Vec F S2x768 .f32) : Vec F S4x2x1024 .f32 :=
  stack fun i => shapeCast S1x2x1024 (hot (mask0 (distN (img x0 i) c 5))) shapeCasts_S2x1024_S1x2x1024

/-- The weights of the block. -/
def weights (x0 : Vec F S4x768x1024 .f32) (c : Vec F S2x768 .f32) : Vec F S4x2x1024 .f32 :=
  stack fun i => shapeCast S1x2x1024 (weightOf (distN (img x0 i) c 5)) shapeCasts_S2x1024_S1x2x1024

/-- The sum of the last centres of the block's images. -/
def centers (x0 : Vec F S4x768x1024 .f32) (c : Vec F S2x768 .f32) : FVec F S2x768 .f32 :=
  addf (addf (addf (addf (broadcast S2x768 (Scalar.ofBits .f32 0x00000000#32)) (newC (img x0 0) (cent (img x0 0) c 5)))
    (newC (img x0 1) (cent (img x0 1) c 5))) (newC (img x0 2) (cent (img x0 2) c 5))) (newC (img x0 3) (cent (img x0 3) c 5))

/-- The cosine between the first and the second centres of an image, in the mean over the classes. -/
def cosI (x0 : Vec F S4x768x1024 .f32) (c : Vec F S2x768 .f32) (i : Fin 4) : F .f32 := meanDot (cent (img x0 i) c 1) (norm2 c)

/-- The sum of these over the block's images. -/
def cini (x0 : Vec F S4x768x1024 .f32) (c : Vec F S2x768 .f32) : F .f32 :=
  Scalar.addf (Scalar.addf (Scalar.addf (Scalar.addf (Scalar.ofBits .f32 0x00000000#32) (cosI x0 c 0)) (cosI x0 c 1)) (cosI x0 c 2)) (cosI x0 c 3)

/-- The first result after a point: what was there and the block's centres. -/
def addC (old : FVec F S2x768 .f32) (x0 : Vec F S4x768x1024 .f32) (c : Vec F S2x768 .f32) : FVec F S2x768 .f32 := addf old (centers x0 c)

/-- The last result after a point. -/
def addI (old : FVec F S1x1 .f32) (x0 : Vec F S4x768x1024 .f32) (c : Vec F S2x768 .f32) : FVec F S1x1 .f32 := addf old (broadcast S1x1 (cini x0 c))

/-- A load of a whole array is the array. -/
theorem whole_S2x768 (x : Vec F S2x768 .f32) (h : ∀ a, (![0, 0] : Fin 2 → ℕ) a + S2x768.size a ≤ S2x768.size a) :
    View.ld (Val := Elt F) x (Rect.unit (s := S2x768) ![0, 0] ![2, 768] h) = x := View.ld_unit_lit h x (by decide)

theorem whole_S1x1 (x : Vec F S1x1 .f32) (h : ∀ a, (![0, 0] : Fin 2 → ℕ) a + S1x1.size a ≤ S1x1.size a) :
    View.ld (Val := Elt F) x (Rect.unit (s := S1x1) ![0, 0] ![1, 1] h) = x := View.ld_unit_lit h x (by decide)

variable (c : Dev nD) (i : grid0.Coords) (arg1 : Memref sig .tc .vmem S4x768x1024 .f32) (harg1 : arg1.IsWhole) (arg2 : Memref sig .tc .vmem S2x768 .f32) (harg2 : arg2.IsWhole) (arg3 : Memref sig .tc .vmem S2x768 .f32) (harg3 : arg3.IsWhole) (arg4 : Memref sig .tc .vmem S4x1x1024 .i32) (harg4 : arg4.IsWhole) (arg5 : Memref sig .tc .vmem S4x1x1024 .i32) (harg5 : arg5.IsWhole) (arg6 : Memref sig .tc .vmem S4x2x1024 .f32) (harg6 : arg6.IsWhole) (arg7 : Memref sig .tc .vmem S4x2x1024 .f32) (harg7 : arg7.IsWhole) (arg8 : Memref sig .tc .vmem S1x1 .f32) (harg8 : arg8.IsWhole)

/-- A point in between: what was there, with the block's own. -/
theorem outs_B (hc0 : ¬cond0_0 i) (hc1 : ¬cond0_1 i)
    (x0 : Vec F S4x768x1024 .f32) (x1 : Vec F S2x768 .f32) (xo2 : Vec F S2x768 .f32) (xo7 : Vec F S1x1 .f32) :
    (out0_B_2 c i arg1 harg1 arg2 harg2 arg3 harg3 arg4 harg4 arg5 harg5 arg6 harg6 arg7 harg7 arg8 harg8 hc0 hc1 x0 x1 xo2 xo7,
     out0_B_3 c i arg1 harg1 arg2 harg2 arg3 harg3 arg4 harg4 arg5 harg5 arg6 harg6 arg7 harg7 arg8 harg8 hc0 hc1 x0 x1 xo2 xo7,
     out0_B_4 c i arg1 harg1 arg2 harg2 arg3 harg3 arg4 harg4 arg5 harg5 arg6 harg6 arg7 harg7 arg8 harg8 hc0 hc1 x0 x1 xo2 xo7,
     out0_B_5 c i arg1 harg1 arg2 harg2 arg3 harg3 arg4 harg4 arg5 harg5 arg6 harg6 arg7 harg7 arg8 harg8 hc0 hc1 x0 x1 xo2 xo7,
     out0_B_6 c i arg1 harg1 arg2 harg2 arg3 harg3 arg4 harg4 arg5 harg5 arg6 harg6 arg7 harg7 arg8 harg8 hc0 hc1 x0 x1 xo2 xo7,
     out0_B_7 c i arg1 harg1 arg2 harg2 arg3 harg3 arg4 harg4 arg5 harg5 arg6 harg6 arg7 harg7 arg8 harg8 hc0 hc1 x0 x1 xo2 xo7) =
    (addC xo2 x0 x1, labels x0 x1 5, labels x0 x1 0, hots x0 x1, weights x0 x1, addI xo7 x0 x1) := by
  refine congrArg₂ Prod.mk ((View.read_writes_eq_canon _ _ _ (cover0_B_2 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_B_3 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_B_4 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_B_5 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_B_6 c i arg1 harg1 arg2 harg2 arg3 harg3 arg4 harg4 arg5 harg5 arg6 harg6 arg7 harg7 arg8 harg8 hc0 hc1 x0 x1 xo2 xo7)).trans ?_)
    ((View.read_writes_eq_canon _ _ _ (cover0_B_7 c i arg1 harg1 arg2 harg2 arg3 harg3 arg4 harg4 arg5 harg5 arg6 harg6 arg7 harg7 arg8 harg8 hc0 hc1 x0 x1 xo2 xo7)).trans ?_)))))
  all_goals
    unfold kernelRun0_B
    dsimp only
    sl_unfold_words
    simp only [View.readAt_eq_ld, harg1.read_unread, harg2.read_unread, harg3.read_unread, harg8.read_unread, whole_S2x768, whole_S1x1]
  · refine (View.canon_cons_unit_lit _ _ _ (by decide)).trans ?_
    refine (congrArg (fun v => addf v _) (shapeCast_self xo2 _)).trans ?_
    rfl
  · exact canon_stack (F := F) (a := 1) (b := 1024) (e := .i32) fun i => shapeCast S1x1x1024 (labelOf (near0 (distN (img x0 i) x1 5))) shapeCasts_S1x1024_S1x1x1024
  · exact canon_stack (F := F) (a := 1) (b := 1024) (e := .i32) fun i => shapeCast S1x1x1024 (labelOf (near0 (distN (img x0 i) x1 0))) shapeCasts_S1x1024_S1x1x1024
  · exact canon_stack (F := F) (a := 2) (b := 1024) (e := .f32) fun i => shapeCast S1x2x1024 (hot (mask0 (distN (img x0 i) x1 5))) shapeCasts_S2x1024_S1x2x1024
  · exact canon_stack (F := F) (a := 2) (b := 1024) (e := .f32) fun i => shapeCast S1x2x1024 (weightOf (distN (img x0 i) x1 5)) shapeCasts_S2x1024_S1x2x1024
  · refine (View.canon_cons_unit_lit _ _ _ (by decide)).trans ?_
    refine (congrArg (fun v => addf v _) (shapeCast_self xo7 _)).trans ?_
    rfl

/-- The first point starts from zero. -/
theorem outs_A (hc0 : cond0_0 i) (hc1 : ¬cond0_1 i)
    (x0 : Vec F S4x768x1024 .f32) (x1 : Vec F S2x768 .f32) :
    (out0_A_2 c i arg1 harg1 arg2 harg2 arg3 harg3 arg4 harg4 arg5 harg5 arg6 harg6 arg7 harg7 arg8 harg8 hc0 hc1 x0 x1,
     out0_A_3 c i arg1 harg1 arg2 harg2 arg3 harg3 arg4 harg4 arg5 harg5 arg6 harg6 arg7 harg7 arg8 harg8 hc0 hc1 x0 x1,
     out0_A_4 c i arg1 harg1 arg2 harg2 arg3 harg3 arg4 harg4 arg5 harg5 arg6 harg6 arg7 harg7 arg8 harg8 hc0 hc1 x0 x1,
     out0_A_5 c i arg1 harg1 arg2 harg2 arg3 harg3 arg4 harg4 arg5 harg5 arg6 harg6 arg7 harg7 arg8 harg8 hc0 hc1 x0 x1,
     out0_A_6 c i arg1 harg1 arg2 harg2 arg3 harg3 arg4 harg4 arg5 harg5 arg6 harg6 arg7 harg7 arg8 harg8 hc0 hc1 x0 x1,
     out0_A_7 c i arg1 harg1 arg2 harg2 arg3 harg3 arg4 harg4 arg5 harg5 arg6 harg6 arg7 harg7 arg8 harg8 hc0 hc1 x0 x1) =
    (addC (broadcast S2x768 (Scalar.ofBits .f32 0x00000000#32)) x0 x1, labels x0 x1 5, labels x0 x1 0, hots x0 x1, weights x0 x1, addI (broadcast S1x1 (Scalar.ofBits .f32 0x00000000#32)) x0 x1) := by
  refine congrArg₂ Prod.mk ((View.read_writes_eq_canon _ _ _ (cover0_A_2 c i arg1 harg1 arg2 harg2 arg3 harg3 arg4 harg4 arg5 harg5 arg6 harg6 arg7 harg7 arg8 harg8 hc0 hc1 x0 x1)).trans ?_)
    (congrArg₂ Prod.mk ((View.read_writes_eq_canon _ _ _ (cover0_A_3 c i arg1 harg1 arg2 harg2 arg3 harg3 arg4 harg4 arg5 harg5 arg6 harg6 arg7 harg7 arg8 harg8 hc0 hc1 x0 x1)).trans ?_)
    (congrArg₂ Prod.mk ((View.read_writes_eq_canon _ _ _ (cover0_A_4 c i arg1 harg1 arg2 harg2 arg3 harg3 arg4 harg4 arg5 harg5 arg6 harg6 arg7 harg7 arg8 harg8 hc0 hc1 x0 x1)).trans ?_)
    (congrArg₂ Prod.mk ((View.read_writes_eq_canon _ _ _ (cover0_A_5 c i arg1 harg1 arg2 harg2 arg3 harg3 arg4 harg4 arg5 harg5 arg6 harg6 arg7 harg7 arg8 harg8 hc0 hc1 x0 x1)).trans ?_)
    (congrArg₂ Prod.mk ((View.read_writes_eq_canon _ _ _ (cover0_A_6 c i arg1 harg1 arg2 harg2 arg3 harg3 arg4 harg4 arg5 harg5 arg6 harg6 arg7 harg7 arg8 harg8 hc0 hc1 x0 x1)).trans ?_)
    ((View.read_writes_eq_canon _ _ _ (cover0_A_7 c i arg1 harg1 arg2 harg2 arg3 harg3 arg4 harg4 arg5 harg5 arg6 harg6 arg7 harg7 arg8 harg8 hc0 hc1 x0 x1)).trans ?_)))))
  all_goals
    unfold kernelRun0_A
    dsimp only
    sl_unfold_words
    simp only [View.readAt_eq_ld, harg1.read_unread, harg2.read_unread, harg3.read_unread, harg8.read_unread, whole_S2x768, whole_S1x1]
  · refine (View.canon_cons_unit_lit _ _ _ (by decide)).trans ?_
    refine (congrArg (fun v => addf v _) ((shapeCast_self _ _).trans (View.readCov_unit_lit _ _ _ (by decide)))).trans ?_
    rfl
  · exact canon_stack (F := F) (a := 1) (b := 1024) (e := .i32) fun i => shapeCast S1x1x1024 (labelOf (near0 (distN (img x0 i) x1 5))) shapeCasts_S1x1024_S1x1x1024
  · exact canon_stack (F := F) (a := 1) (b := 1024) (e := .i32) fun i => shapeCast S1x1x1024 (labelOf (near0 (distN (img x0 i) x1 0))) shapeCasts_S1x1024_S1x1x1024
  · exact canon_stack (F := F) (a := 2) (b := 1024) (e := .f32) fun i => shapeCast S1x2x1024 (hot (mask0 (distN (img x0 i) x1 5))) shapeCasts_S2x1024_S1x2x1024
  · exact canon_stack (F := F) (a := 2) (b := 1024) (e := .f32) fun i => shapeCast S1x2x1024 (weightOf (distN (img x0 i) x1 5)) shapeCasts_S2x1024_S1x2x1024
  · refine (View.canon_cons_unit_lit _ _ _ (by decide)).trans ?_
    refine (congrArg (fun v => addf v _) ((shapeCast_self _ _).trans (View.readCov_unit_lit _ _ _ (by decide)))).trans ?_
    rfl

/-- The last point also divides the two sums by the number of images. -/
theorem outs_C (hc0 : ¬cond0_0 i) (hc1 : cond0_1 i)
    (x0 : Vec F S4x768x1024 .f32) (x1 : Vec F S2x768 .f32) (xo2 : Vec F S2x768 .f32) (xo7 : Vec F S1x1 .f32) :
    (out0_C_2 c i arg1 harg1 arg2 harg2 arg3 harg3 arg4 harg4 arg5 harg5 arg6 harg6 arg7 harg7 arg8 harg8 hc0 hc1 x0 x1 xo2 xo7,
     out0_C_3 c i arg1 harg1 arg2 harg2 arg3 harg3 arg4 harg4 arg5 harg5 arg6 harg6 arg7 harg7 arg8 harg8 hc0 hc1 x0 x1 xo2 xo7,
     out0_C_4 c i arg1 harg1 arg2 harg2 arg3 harg3 arg4 harg4 arg5 harg5 arg6 harg6 arg7 harg7 arg8 harg8 hc0 hc1 x0 x1 xo2 xo7,
     out0_C_5 c i arg1 harg1 arg2 harg2 arg3 harg3 arg4 harg4 arg5 harg5 arg6 harg6 arg7 harg7 arg8 harg8 hc0 hc1 x0 x1 xo2 xo7,
     out0_C_6 c i arg1 harg1 arg2 harg2 arg3 harg3 arg4 harg4 arg5 harg5 arg6 harg6 arg7 harg7 arg8 harg8 hc0 hc1 x0 x1 xo2 xo7,
     out0_C_7 c i arg1 harg1 arg2 harg2 arg3 harg3 arg4 harg4 arg5 harg5 arg6 harg6 arg7 harg7 arg8 harg8 hc0 hc1 x0 x1 xo2 xo7) =
    (mulf (addC xo2 x0 x1) (broadcast S2x768 (Scalar.ofBits .f32 0x3D800000#32)), labels x0 x1 5, labels x0 x1 0, hots x0 x1, weights x0 x1, mulf (addI xo7 x0 x1) (broadcast S1x1 (Scalar.ofBits .f32 0x3D800000#32))) := by
  refine congrArg₂ Prod.mk ((View.read_writes_eq_canon _ _ _ (cover0_C_2 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_C_3 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_C_4 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_C_5 c i arg1 harg1 arg2 harg2 arg3 harg3 arg4 harg4 arg5 harg5 arg6 harg6 arg7 harg7 arg8 harg8 hc0 hc1 x0 x1 xo2 xo7)).trans ?_)
    (congrArg₂ Prod.mk ((View.read_writes_eq_canon _ _ _ (cover0_C_6 c i arg1 harg1 arg2 harg2 arg3 harg3 arg4 harg4 arg5 harg5 arg6 harg6 arg7 harg7 arg8 harg8 hc0 hc1 x0 x1 xo2 xo7)).trans ?_)
    ((View.read_writes_eq_canon _ _ _ (cover0_C_7 c i arg1 harg1 arg2 harg2 arg3 harg3 arg4 harg4 arg5 harg5 arg6 harg6 arg7 harg7 arg8 harg8 hc0 hc1 x0 x1 xo2 xo7)).trans ?_)))))
  all_goals
    unfold kernelRun0_C
    dsimp only
    sl_unfold_words
    simp only [View.readAt_eq_ld, harg1.read_unread, harg2.read_unread, harg3.read_unread, harg8.read_unread, whole_S2x768, whole_S1x1]
  · refine (View.canon_cons_unit_lit _ _ _ (by decide)).trans ?_
    refine (congrArg (fun v => mulf v _) ((shapeCast_self _ _).trans (View.readCov_unit_lit _ _ _ (by decide)))).trans ?_
    refine (congrArg (fun v => mulf (addf v _) _) (shapeCast_self xo2 _)).trans ?_
    rfl
  · exact canon_stack (F := F) (a := 1) (b := 1024) (e := .i32) fun i => shapeCast S1x1x1024 (labelOf (near0 (distN (img x0 i) x1 5))) shapeCasts_S1x1024_S1x1x1024
  · exact canon_stack (F := F) (a := 1) (b := 1024) (e := .i32) fun i => shapeCast S1x1x1024 (labelOf (near0 (distN (img x0 i) x1 0))) shapeCasts_S1x1024_S1x1x1024
  · exact canon_stack (F := F) (a := 2) (b := 1024) (e := .f32) fun i => shapeCast S1x2x1024 (hot (mask0 (distN (img x0 i) x1 5))) shapeCasts_S2x1024_S1x2x1024
  · exact canon_stack (F := F) (a := 2) (b := 1024) (e := .f32) fun i => shapeCast S1x2x1024 (weightOf (distN (img x0 i) x1 5)) shapeCasts_S2x1024_S1x2x1024
  · refine (View.canon_cons_unit_lit _ _ _ (by decide)).trans ?_
    refine (congrArg (fun v => mulf v _) ((shapeCast_self _ _).trans (View.readCov_unit_lit _ _ _ (by decide)))).trans ?_
    refine (congrArg (fun v => mulf (addf v _) _) (shapeCast_self xo7 _)).trans ?_
    rfl

end Cert.KernelIdeal.Block

end
-- ==== Proof.Arrays.lean ====
module

public import Idealize.ShloMosaic.Lib.Pipeline.ValueKit
public import proofs.«01_k».proof.Proof.Block
public import proofs.«01_k».proof.Proof.Ker
public import proofs.«01_k».proof.Proof.Feat

@[expose] public section

noncomputable section

/-! What the six arrays of the kernel hold after the run. -/

namespace Cert.Arrays

open Cert.KernelIdeal Cert.KernelIdeal.Gen Cert.KernelIdeal.Block Idealize.ShloMosaic Idealize.ShloMosaic.TcCoe Idealize.SL.Sem
open Cert.Ker (mat)

variable (m : (ℓ : Loc nD τ sig) → Buf (Elt Ideal) ℓ) (c : Dev nD)

/-- The two arguments. -/
abbrev a0 : S16x768x32x32.Idx → EReal := m ((c.tc : Thread nD τ).loc main_arg0)
abbrev a1 : S2x768.Idx → EReal := m ((c.tc : Thread nD τ).loc main_arg1)

/-- The blocks of features and of centres that point `t` reads. -/
abbrev xb (t : Fin cfg0.N) : Vec Ideal S4x768x1024 .f32 := iblk m c 0 t
abbrev cb (t : Fin cfg0.N) : Vec Ideal S2x768 .f32 := iblk m c 1 t

/-- The number of the `i`-th image of point `t`'s block. -/
def num (t : Fin cfg0.N) (i : Fin 4) : Fin 16 := ⟨4 * t.val + i.val, by have := t.isLt; have := (show cfg0.N = 4 from N_0); omega⟩

/-- The features as the region finds them are the argument, its pixels in one row. -/
theorem entry_feat : V m c main_v0 = shapeCast S16x768x1024 (a0 m c) shapeCasts_S16x768x32x32_S16x768x1024 := by
  show StableHlo.after (List.flatten [hostOps0]) (fun b => m (c, b)) (Proc.devRef .tc main_v0) = _
  simp only [hostOps0, List.flatten_cons, List.flatten_nil, List.append_nil]
  after_results
  rfl

theorem entry_cent : V m c main_arg1 = a1 m c := by
  show StableHlo.after (List.flatten [hostOps0]) (fun b => m (c, b)) (Proc.devRef .tc main_arg1) = _
  simp only [hostOps0, List.flatten_cons, List.flatten_nil, List.append_nil]
  after_results

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

/-- Image `i` of point `t`'s block is the argument's image of that number. -/
theorem img_eq (t : Fin cfg0.N) (i : Fin 4) : mat (img (xb m c t) i) = Spec.feat (a0 m c) (num t i) := by
  funext j n
  have e1 : mat (img (xb m c t) i) j n = xb m c t ((row 768 1024 i).emb (ix3 0 j n)) := by
    unfold mat img
    pointwise [Vocab.slab]
    rfl
  rw [e1, row_emb]
  show iblk m c 0 t _ = _
  blk_simp [iblk, index0]
  rw [entry_feat]
  refine congrArg (shapeCast S16x768x1024 (a0 m c) _) (funext fun d => Fin.ext ?_)
  fin_cases d
  · blk_simp [index0]
    show t.val * 4 + i.val = 4 * t.val + i.val
    omega
  · blk_simp [index0]
    rfl
  · blk_simp [index0]
    rfl

/-- The block of centres is the argument. -/
theorem cent_eq (t : Fin cfg0.N) : cb m c t = a1 m c := by
  funext y
  show iblk m c 1 t y = _
  blk_simp [iblk, index1]
  rw [entry_cent]
  refine congrArg (a1 m c) (funext fun d => Fin.ext ?_)
  fin_cases d
  · blk_simp [index1]
  · blk_simp [index1]

theorem cents_eq (t : Fin cfg0.N) : mat (cb m c t) = Spec.cents (a1 m c) := by rw [cent_eq]; rfl

/-- What the block leaves of labels, masks and weights at every point. -/
theorem mids (t : Fin cfg0.N) : ∃ C I, outsAt0 m c t.val t.isLt =
    (C, labels (xb m c t) (cb m c t) 5, labels (xb m c t) (cb m c t) 0, hots (xb m c t) (cb m c t), weights (xb m c t) (cb m c t), I) := by
  by_cases h0 : t.val % 4 = 0
  · exact ⟨_, _, (outsAt0_A m c t h0 (by omega)).trans (outs_A ..)⟩
  · by_cases h1 : t.val % 4 = 3
    · exact ⟨_, _, (outsAt0_C m c t h0 h1).trans (outs_C ..)⟩
    · exact ⟨_, _, (outsAt0_B m c t h0 h1).trans (outs_B ..)⟩

/-- The two sums after the points up to `n`, before the last division. -/
def accC : (n : ℕ) → n < cfg0.N → Vec Ideal S2x768 .f32
  | 0, h => addC (broadcast S2x768 (Scalar.ofBits .f32 0x00000000#32)) (xb m c ⟨0, h⟩) (cb m c ⟨0, h⟩)
  | n + 1, h => addC (accC n (Nat.lt_of_succ_lt h)) (xb m c ⟨n + 1, h⟩) (cb m c ⟨n + 1, h⟩)

def accI : (n : ℕ) → n < cfg0.N → Vec Ideal S1x1 .f32
  | 0, h => addI (broadcast S1x1 (Scalar.ofBits .f32 0x00000000#32)) (xb m c ⟨0, h⟩) (cb m c ⟨0, h⟩)
  | n + 1, h => addI (accI n (Nat.lt_of_succ_lt h)) (xb m c ⟨n + 1, h⟩) (cb m c ⟨n + 1, h⟩)

theorem acc_eq : ∀ (n : ℕ) (h : n < cfg0.N), n < 3 → (outsAt0 m c n h).1 = accC m c n h ∧ (outsAt0 m c n h).2.2.2.2.2 = accI m c n h
  | 0, h, _ => by
    have e := (outsAt0_A m c ⟨0, h⟩ rfl (by dsimp only; omega)).trans (outs_A ..)
    exact ⟨congrArg (·.1) e, congrArg (·.2.2.2.2.2) e⟩
  | n + 1, h, h3 => by
    have e := (outsAt0_B m c ⟨n + 1, h⟩ (by dsimp only; omega) (by dsimp only; omega)).trans (outs_B ..)
    obtain ⟨i1, i2⟩ := acc_eq n (Nat.lt_of_succ_lt h) (by omega)
    exact ⟨(congrArg (·.1) e).trans (congrArg (addC · _ _) i1), (congrArg (·.2.2.2.2.2) e).trans (congrArg (addI · _ _) i2)⟩

theorem three_lt : 3 < cfg0.N := by rw [show cfg0.N = 4 from N_0]; decide

/-- The last point divides both sums by sixteen. -/
theorem last_eq : (outsAt0 m c 3 three_lt).1 = mulf (F := Ideal) (φ := .f32) (accC m c 3 three_lt) (broadcast S2x768 (Scalar.ofBits .f32 0x3D800000#32))
    ∧ (outsAt0 m c 3 three_lt).2.2.2.2.2 = mulf (F := Ideal) (φ := .f32) (accI m c 3 three_lt) (broadcast S1x1 (Scalar.ofBits .f32 0x3D800000#32)) := by
  have e := (outsAt0_C m c ⟨3, three_lt⟩ (by dsimp only; omega) rfl).trans (outs_C ..)
  obtain ⟨i1, i2⟩ := acc_eq m c 2 (Nat.lt_of_succ_lt three_lt) (by omega)
  refine ⟨(congrArg (·.1) e).trans ?_, (congrArg (·.2.2.2.2.2) e).trans ?_⟩
  · exact congrArg (fun v => mulf (F := Ideal) (φ := .f32) (addC v _ _) _) i1
  · exact congrArg (fun v => mulf (F := Ideal) (φ := .f32) (addI v _ _) _) i2

theorem zero_bits : Ideal.ofBits .f32 0x00000000#32 = 0 := by
  simp [Ideal.ofBits, Ideal.ieee]

/-- Sixteen terms added four by four from zero are their sum. -/
theorem sum16 (g : Fin 16 → EReal) (z : EReal) (hz : z = 0) (p : Fin cfg0.N → EReal)
    (hp : ∀ t, p t = z + g (num t 0) + g (num t 1) + g (num t 2) + g (num t 3)) (acc : (n : ℕ) → n < cfg0.N → EReal)
    (h0 : ∀ hn, acc 0 hn = z + p ⟨0, hn⟩) (hs : ∀ n hn, acc (n + 1) hn = acc n (Nat.lt_of_succ_lt hn) + p ⟨n + 1, hn⟩) :
    acc 3 three_lt = ∑ b, g b := by
  subst hz
  rw [hs, hs, hs, h0]
  simp only [hp, Fin.sum_univ_castSucc, Fin.sum_univ_zero, zero_add, add_assoc]
  rfl

/-- One sixteenth times is divided by sixteen. -/
theorem mul_sixteenth (x : EReal) : x * Ideal.ofBits .f32 0x3D800000#32 = Ideal.div x Spec.sixteen := by
  have e : Spec.sixteen = ((16 : ℝ) : EReal) := by
    simp [Spec.sixteen, Ideal.ofBits, Ideal.ieee, -EReal.coe_mul]; norm_num
  have e' : Ideal.ofBits .f32 0x3D800000#32 = (((16 : ℝ)⁻¹ : ℝ) : EReal) := by
    simp [Ideal.ofBits, Ideal.ieee, -EReal.coe_mul]; norm_num
  rw [e, e']
  unfold Ideal.div
  rw [if_neg (by simp), EReal.coe_inv]

variable (h : ∀ b j n, Ker.Fin' (Spec.feat (a0 m c) b j n))
include h

theorem img_fin (t : Fin cfg0.N) (i : Fin 4) (j : Fin 768) (n : Fin 1024) : Ker.Fin' (mat (img (xb m c t) i) j n) := by
  rw [img_eq]; exact h _ _ _

/-- The distances the kernel finds for image `i` of point `t`. -/
theorem dis_eq (t : Fin cfg0.N) (i : Fin 4) (n : ℕ) :
    mat (Vocab.distN (img (xb m c t) i) (cb m c t) n) = Spec.dis (Spec.feat (a0 m c) (num t i)) (Spec.cents (a1 m c)) n := by
  rw [Ker.dis_eq _ _ (img_fin m c h t i), img_eq, cent_eq]
  rfl

theorem labels_at (t : Fin cfg0.N) (s : ℕ) (i : Fin 4) (z : Fin 1) (n : Fin 1024) : labels (xb m c t) (cb m c t) s (ix3 i z n) =
    Spec.lab (Spec.dis (Spec.feat (a0 m c) (num t i)) (Spec.cents (a1 m c)) s) n := by
  rw [← dis_eq m c h, ← Ker.label_eq]
  unfold labels stack inRow
  simp only [← ix3_eq_valueIdx]
  pointwise

theorem hots_at (t : Fin cfg0.N) (i : Fin 4) (k : Fin 2) (n : Fin 1024) : hots (xb m c t) (cb m c t) (ix3 i k n) =
    Spec.msk (Spec.dis (Spec.feat (a0 m c) (num t i)) (Spec.cents (a1 m c)) 5) k n := by
  rw [← dis_eq m c h, ← Ker.hot_eq]
  unfold hots stack inRow
  simp only [← ix3_eq_valueIdx]
  pointwise

theorem weights_at (t : Fin cfg0.N) (i : Fin 4) (k : Fin 2) (n : Fin 1024) : weights (xb m c t) (cb m c t) (ix3 i k n) =
    Spec.wgt (Spec.dis (Spec.feat (a0 m c) (num t i)) (Spec.cents (a1 m c)) 5) k n := by
  rw [← dis_eq m c h, ← Ker.weight_eq]
  unfold weights stack inRow mat
  simp only [← ix3_eq_valueIdx]
  pointwise

omit h in
/-- Where an index of point `t`'s block lies in its array. -/
theorem placed {a : ℕ} (t : Fin cfg0.N) (i : Fin 4) (k : Fin a) (n : Fin 1024) (x : (⟨3, ![16, a, 1024]⟩ : Shape).Idx)
    (h0 : (x 0).val = t.val * 4 + i.val) (h1 : (x 1).val = k.val) (h2 : (x 2).val = n.val) : x = ix3 (num t i) k n := by
  funext d
  apply Fin.ext
  fin_cases d
  · exact h0.trans (by show t.val * 4 + i.val = 4 * t.val + i.val; omega)
  · exact h1
  · exact h2

/-- The array of the labels, -/
theorem final3 : (dats m 0 c).arrAt 3 cfg0.N = fun j : S16x1x1024.Idx => Spec.lab (Spec.dis (Spec.feat (a0 m c) (j 0)) (Spec.cents (a1 m c)) 5) (j 2) := by
  refine (dats m 0 c).arrAt_eq_of_covers 3 _ (by decide +kernel) fun t hf y => ?_
  obtain ⟨C, I, e⟩ := mids m c t
  obtain ⟨i, k, n, rfl⟩ : ∃ (i : Fin 4) (k : Fin 1) (n : Fin 1024), y = ix3 i k n := ⟨y 0, y 1, y 2, eq_ix3 y⟩
  blk_simp
  rw [after0_3, e]
  rw [placed t i k n ((win0_3.blk t).view.emb (ix3 i k n)) (by blk_simp [index3]) (by blk_simp [index3]) (by blk_simp [index3])]
  exact labels_at m c h t 5 i k n

/-- of the first step's labels, -/
theorem final4 : (dats m 0 c).arrAt 4 cfg0.N = fun j : S16x1x1024.Idx => Spec.lab (Spec.dis (Spec.feat (a0 m c) (j 0)) (Spec.cents (a1 m c)) 0) (j 2) := by
  refine (dats m 0 c).arrAt_eq_of_covers 4 _ (by decide +kernel) fun t hf y => ?_
  obtain ⟨C, I, e⟩ := mids m c t
  obtain ⟨i, k, n, rfl⟩ : ∃ (i : Fin 4) (k : Fin 1) (n : Fin 1024), y = ix3 i k n := ⟨y 0, y 1, y 2, eq_ix3 y⟩
  blk_simp
  rw [after0_4, e]
  rw [placed t i k n ((win0_4.blk t).view.emb (ix3 i k n)) (by blk_simp [index4]) (by blk_simp [index4]) (by blk_simp [index4])]
  exact labels_at m c h t 0 i k n

/-- of the masks, -/
theorem final5 : (dats m 0 c).arrAt 5 cfg0.N = fun j : S16x2x1024.Idx => Spec.msk (Spec.dis (Spec.feat (a0 m c) (j 0)) (Spec.cents (a1 m c)) 5) (j 1) (j 2) := by
  refine (dats m 0 c).arrAt_eq_of_covers 5 _ (by decide +kernel) fun t hf y => ?_
  obtain ⟨C, I, e⟩ := mids m c t
  obtain ⟨i, k, n, rfl⟩ : ∃ (i : Fin 4) (k : Fin 2) (n : Fin 1024), y = ix3 i k n := ⟨y 0, y 1, y 2, eq_ix3 y⟩
  blk_simp
  rw [after0_5, e]
  rw [placed t i k n ((win0_5.blk t).view.emb (ix3 i k n)) (by blk_simp [index5]) (by blk_simp [index5]) (by blk_simp [index5])]
  exact hots_at m c h t i k n

/-- and of the weights. -/
theorem final6 : (dats m 0 c).arrAt 6 cfg0.N = fun j : S16x2x1024.Idx => Spec.wgt (Spec.dis (Spec.feat (a0 m c) (j 0)) (Spec.cents (a1 m c)) 5) (j 1) (j 2) := by
  refine (dats m 0 c).arrAt_eq_of_covers 6 _ (by decide +kernel) fun t hf y => ?_
  obtain ⟨C, I, e⟩ := mids m c t
  obtain ⟨i, k, n, rfl⟩ : ∃ (i : Fin 4) (k : Fin 2) (n : Fin 1024), y = ix3 i k n := ⟨y 0, y 1, y 2, eq_ix3 y⟩
  blk_simp
  rw [after0_6, e]
  rw [placed t i k n ((win0_6.blk t).view.emb (ix3 i k n)) (by blk_simp [index6]) (by blk_simp [index6]) (by blk_simp [index6])]
  exact weights_at m c h t i k n

theorem centers_at (t : Fin cfg0.N) (k : Fin 2) (j : Fin 768) : centers (xb m c t) (cb m c t) (ix2 k j) =
    Ideal.ofBits .f32 0x00000000#32 + Spec.cen (Spec.feat (a0 m c) (num t 0)) (Spec.cents (a1 m c)) 6 k j + Spec.cen (Spec.feat (a0 m c) (num t 1)) (Spec.cents (a1 m c)) 6 k j
      + Spec.cen (Spec.feat (a0 m c) (num t 2)) (Spec.cents (a1 m c)) 6 k j + Spec.cen (Spec.feat (a0 m c) (num t 3)) (Spec.cents (a1 m c)) 6 k j := by
  have e : ∀ i, Vocab.newC (img (xb m c t) i) (Vocab.cent (img (xb m c t) i) (cb m c t) 5) (ix2 k j) = Spec.cen (Spec.feat (a0 m c) (num t i)) (Spec.cents (a1 m c)) 6 k j := by
    intro i
    have := Ker.new_eq _ (cb m c t) (img_fin m c h t i) 5
    rw [img_eq, cents_eq] at this
    exact congrFun (congrFun this k) j
  simp only [← e]
  rfl

theorem cini_at (t : Fin cfg0.N) : cini (xb m c t) (cb m c t) =
    Ideal.ofBits .f32 0x00000000#32 + Spec.cos (Spec.feat (a0 m c) (num t 0)) (Spec.cents (a1 m c)) + Spec.cos (Spec.feat (a0 m c) (num t 1)) (Spec.cents (a1 m c))
      + Spec.cos (Spec.feat (a0 m c) (num t 2)) (Spec.cents (a1 m c)) + Spec.cos (Spec.feat (a0 m c) (num t 3)) (Spec.cents (a1 m c)) := by
  have e : ∀ i, cosI (xb m c t) (cb m c t) i = Spec.cos (Spec.feat (a0 m c) (num t i)) (Spec.cents (a1 m c)) := by
    intro i
    unfold cosI
    rw [Ker.dot_eq, Ker.cent_eq _ _ (img_fin m c h t i), Ker.norm2_eq, img_eq, cent_eq]
    rfl
  simp only [← e]
  rfl

/-- The array of the centres: their mean over the images. -/
theorem final2 : (dats m 0 c).arrAt 2 cfg0.N = fun j : S2x768.Idx =>
    Ideal.div (∑ b, Spec.cen (Spec.feat (a0 m c) b) (Spec.cents (a1 m c)) 6 (j 0) (j 1)) Spec.sixteen := by
  refine (dats m 0 c).arrAt_eq_of_after_last 2 ⟨3, three_lt⟩ (by decide +kernel) _ fun j => ?_
  obtain ⟨k, x, rfl⟩ : ∃ (k : Fin 2) (x : Fin 768), j = ix2 k x := ⟨j 0, j 1, eq_ix2 j⟩
  refine (congrFun (after0_2 m c ⟨3, three_lt⟩) (ix2 k x)).trans ?_
  refine (congrFun (last_eq m c).1 _).trans ?_
  have hs := sum16 (fun b => Spec.cen (Spec.feat (a0 m c) b) (Spec.cents (a1 m c)) 6 k x) _ zero_bits (fun t => centers (xb m c t) (cb m c t) (ix2 k x))
    (fun t => centers_at m c h t k x) (fun n hn => accC m c n hn (ix2 k x)) (fun _ => rfl) (fun _ _ => rfl)
  exact (congrArg (· * Ideal.ofBits .f32 0x3D800000#32) hs).trans (mul_sixteenth _)

/-- The array of the mean cosine. -/
theorem final7 : (dats m 0 c).arrAt 7 cfg0.N = fun _ : S1x1.Idx =>
    Ideal.div (∑ b, Spec.cos (Spec.feat (a0 m c) b) (Spec.cents (a1 m c))) Spec.sixteen := by
  refine (dats m 0 c).arrAt_eq_of_after_last 7 ⟨3, three_lt⟩ (by decide +kernel) _ fun j => ?_
  obtain rfl : j = ix2 0 0 := by rw [eq_ix2 j]; exact congrArg₂ ix2 (Subsingleton.elim (α := Fin 1) _ _) (Subsingleton.elim (α := Fin 1) _ _)
  refine (congrFun (after0_7 m c ⟨3, three_lt⟩) (ix2 0 0)).trans ?_
  refine (congrFun (last_eq m c).2 _).trans ?_
  have hs := sum16 (fun b => Spec.cos (Spec.feat (a0 m c) b) (Spec.cents (a1 m c))) _ zero_bits (fun t => cini (xb m c t) (cb m c t))
    (fun t => cini_at m c h t) (fun n hn => accI m c n hn (ix2 0 0)) (fun _ => rfl) (fun _ _ => rfl)
  exact (congrArg (· * Ideal.ofBits .f32 0x3D800000#32) hs).trans (mul_sixteenth _)

end Cert.Arrays

end
-- ==== Proof.Run.lean ====
module

public import proofs.«01_k».proof.Proof.Arrays
public import proofs.«01_k».proof.Proof.Ref
public import proofs.«01_k».proof.Proof.Gen.ReferenceIdeal.StepRun

@[expose] public section

noncomputable section

/-! The kernel's and the reference's results after their runs, both in the words of `Spec`. -/

namespace Cert.Results

open Idealize.ShloMosaic

/-- The six results, of the two arguments. -/
def centers (x0 : (⟨4, ![16, 768, 32, 32]⟩ : Shape).Idx → EReal) (x1 : (⟨2, ![2, 768]⟩ : Shape).Idx → EReal) : (⟨2, ![2, 768]⟩ : Shape).Idx → EReal :=
  fun j => Ideal.div (∑ b, Spec.cen (Spec.feat x0 b) (Spec.cents x1) 6 (j 0) (j 1)) Spec.sixteen

def labels (x0 : (⟨4, ![16, 768, 32, 32]⟩ : Shape).Idx → EReal) (x1 : (⟨2, ![2, 768]⟩ : Shape).Idx → EReal) (n : ℕ) : (⟨2, ![16, 1024]⟩ : Shape).Idx → BitVec 32 :=
  fun j => Spec.lab (Spec.dis (Spec.feat x0 (j 0)) (Spec.cents x1) n) (j 1)

def hots (x0 : (⟨4, ![16, 768, 32, 32]⟩ : Shape).Idx → EReal) (x1 : (⟨2, ![2, 768]⟩ : Shape).Idx → EReal) : (⟨3, ![16, 1024, 2]⟩ : Shape).Idx → EReal :=
  fun j => Spec.msk (Spec.dis (Spec.feat x0 (j 0)) (Spec.cents x1) 5) (j 2) (j 1)

def weights (x0 : (⟨4, ![16, 768, 32, 32]⟩ : Shape).Idx → EReal) (x1 : (⟨2, ![2, 768]⟩ : Shape).Idx → EReal) : (⟨3, ![16, 1024, 2]⟩ : Shape).Idx → EReal :=
  fun j => Spec.wgt (Spec.dis (Spec.feat x0 (j 0)) (Spec.cents x1) 5) (j 2) (j 1)

def cini (x0 : (⟨4, ![16, 768, 32, 32]⟩ : Shape).Idx → EReal) (x1 : (⟨2, ![2, 768]⟩ : Shape).Idx → EReal) : (⟨0, ![]⟩ : Shape).Idx → EReal :=
  fun _ => Ideal.div (∑ b, Spec.cos (Spec.feat x0 b) (Spec.cents x1)) Spec.sixteen

end Cert.Results

namespace Cert.KernelIdeal.Value

open Cert.KernelIdeal Cert.KernelIdeal.Gen Cert.Arrays Idealize.ShloMosaic Idealize.ShloMosaic.TcCoe Idealize.SL.Sem

variable (m : (ℓ : Loc nD τ sig) → Buf (Elt Ideal) ℓ) (ρ : Dev nD → PrngReg) (c : Dev nD)

/-- What the host operations after the kernel find. -/
abbrev exitV : Valuation τ sig (Elt Ideal) := Pipeline.withArrays spec0 c (Gen.V0 m c) fun w => (Gen.dats m 0 c).arrAt w cfg0.N

theorem arr_at (w : Fin 8) : exitV m c (Proc.devRef .tc (Pipeline.arrRef spec0 w)) = (Gen.dats m 0 c).arrAt w cfg0.N :=
  Pipeline.withArrays_arr spec0 launch0.win.arr_inj c (Gen.V0 m c) _ w

/-- What each host operation after the kernel leaves. -/
theorem tail2 (W : Valuation τ sig (Elt Ideal)) : StableHlo.after (List.flatten [hostOps1]) W (Proc.devRef .tc main_v2)
    = shapeCast S16x1024 (W (Proc.devRef .tc main_v1_1) : S16x1x1024.Idx → BitVec 32) shapeCasts_S16x1x1024_S16x1024 := by
  simp only [hostOps1, List.flatten_cons, List.flatten_nil, List.append_nil]
  after_results
  rfl

theorem tail3 (W : Valuation τ sig (Elt Ideal)) : StableHlo.after (List.flatten [hostOps1]) W (Proc.devRef .tc main_v3)
    = shapeCast S16x1024 (W (Proc.devRef .tc main_v1_2) : S16x1x1024.Idx → BitVec 32) shapeCasts_S16x1x1024_S16x1024 := by
  simp only [hostOps1, List.flatten_cons, List.flatten_nil, List.append_nil]
  after_results
  rfl

theorem tail4 (W : Valuation τ sig (Elt Ideal)) : StableHlo.after (List.flatten [hostOps1]) W (Proc.devRef .tc main_v4)
    = transpose S16x1024x2 [0, 2, 1] (W (Proc.devRef .tc main_v1_3) : S16x2x1024.Idx → EReal) transposes_S16x2x1024_S16x1024x2_0_2_1 := by
  simp only [hostOps1, List.flatten_cons, List.flatten_nil, List.append_nil]
  after_results

theorem tail5 (W : Valuation τ sig (Elt Ideal)) : StableHlo.after (List.flatten [hostOps1]) W (Proc.devRef .tc main_v5)
    = transpose S16x1024x2 [0, 2, 1] (W (Proc.devRef .tc main_v1_4) : S16x2x1024.Idx → EReal) transposes_S16x2x1024_S16x1024x2_0_2_1 := by
  simp only [hostOps1, List.flatten_cons, List.flatten_nil, List.append_nil]
  after_results

theorem tail6 (W : Valuation τ sig (Elt Ideal)) : StableHlo.after (List.flatten [hostOps1]) W (Proc.devRef .tc main_v6)
    = shapeCast S_ (W (Proc.devRef .tc main_v1_5) : S1x1.Idx → EReal) shapeCasts_S1x1_S_ := by
  simp only [hostOps1, List.flatten_cons, List.flatten_nil, List.append_nil]
  after_results
  rfl

variable (h : ∀ c b j n, Ker.Fin' (Spec.feat (a0 m c) b j n))
include h

theorem end2 : Pipeline.afterTail₀ cfgs (Gen.dats m) 0 (Gen.V0 m) [hostOps1] c main_v2 = Results.labels (a0 m c) (a1 m c) 5 := by
  refine (tail2 (exitV m c)).trans ?_
  rw [show exitV m c (Proc.devRef .tc main_v1_1) = _ from arr_at m c 3, final3 m c (h c)]
  funext j
  obtain ⟨b, n, rfl⟩ : ∃ (b : Fin 16) (n : Fin 1024), j = ix2 b n := ⟨j 0, j 1, eq_ix2 j⟩
  pointwise
  rfl

theorem end3 : Pipeline.afterTail₀ cfgs (Gen.dats m) 0 (Gen.V0 m) [hostOps1] c main_v3 = Results.labels (a0 m c) (a1 m c) 0 := by
  refine (tail3 (exitV m c)).trans ?_
  rw [show exitV m c (Proc.devRef .tc main_v1_2) = _ from arr_at m c 4, final4 m c (h c)]
  funext j
  obtain ⟨b, n, rfl⟩ : ∃ (b : Fin 16) (n : Fin 1024), j = ix2 b n := ⟨j 0, j 1, eq_ix2 j⟩
  pointwise
  rfl

theorem end4 : Pipeline.afterTail₀ cfgs (Gen.dats m) 0 (Gen.V0 m) [hostOps1] c main_v4 = Results.hots (a0 m c) (a1 m c) := by
  refine (tail4 (exitV m c)).trans ?_
  rw [show exitV m c (Proc.devRef .tc main_v1_3) = _ from arr_at m c 5, final5 m c (h c)]
  funext j
  obtain ⟨b, n, k, rfl⟩ : ∃ (b : Fin 16) (n : Fin 1024) (k : Fin 2), j = ix3 b n k := ⟨j 0, j 1, j 2, eq_ix3 j⟩
  pointwise
  rfl

theorem end5 : Pipeline.afterTail₀ cfgs (Gen.dats m) 0 (Gen.V0 m) [hostOps1] c main_v5 = Results.weights (a0 m c) (a1 m c) := by
  refine (tail5 (exitV m c)).trans ?_
  rw [show exitV m c (Proc.devRef .tc main_v1_4) = _ from arr_at m c 6, final6 m c (h c)]
  funext j
  obtain ⟨b, n, k, rfl⟩ : ∃ (b : Fin 16) (n : Fin 1024) (k : Fin 2), j = ix3 b n k := ⟨j 0, j 1, j 2, eq_ix3 j⟩
  pointwise
  rfl

theorem end6 : Pipeline.afterTail₀ cfgs (Gen.dats m) 0 (Gen.V0 m) [hostOps1] c main_v6 = Results.cini (a0 m c) (a1 m c) := by
  refine (tail6 (exitV m c)).trans ?_
  rw [show exitV m c (Proc.devRef .tc main_v1_5) = _ from arr_at m c 7, final7 m c (h c)]
  rfl

/-- The kernel runs to the end with the six results of the vocabulary. -/
theorem run : θ_run defs (onTc (τ := τ) (main (F := Ideal))) ⟨m, fun _ => 0, ρ⟩ fun r => ∀ c : Dev nD,
      r.2.mem ((c.tc : Thread nD τ).loc main_v1_0) = Results.centers (a0 m c) (a1 m c)
      ∧ r.2.mem ((c.tc : Thread nD τ).loc main_v2) = Results.labels (a0 m c) (a1 m c) 5
      ∧ r.2.mem ((c.tc : Thread nD τ).loc main_v4) = Results.hots (a0 m c) (a1 m c)
      ∧ r.2.mem ((c.tc : Thread nD τ).loc main_v5) = Results.weights (a0 m c) (a1 m c)
      ∧ r.2.mem ((c.tc : Thread nD τ).loc main_v3) = Results.labels (a0 m c) (a1 m c) 0
      ∧ r.2.mem ((c.tc : Thread nD τ).loc main_v6) = Results.cini (a0 m c) (a1 m c) :=
  (θ_run defs _ _).mono (fun _ hr c =>
    ⟨(hr.out_eq c 2).trans (final2 m c (h c)),
     (hr.rest_eq c main_v2 (by decide)).trans (end2 m c h), (hr.rest_eq c main_v4 (by decide)).trans (end4 m c h),
     (hr.rest_eq c main_v5 (by decide)).trans (end5 m c h), (hr.rest_eq c main_v3 (by decide)).trans (end3 m c h),
     (hr.rest_eq c main_v6 (by decide)).trans (end6 m c h)⟩)
    (Gen.run_main m ρ)

end Cert.KernelIdeal.Value

namespace Cert.ReferenceIdeal.Results

open Cert.ReferenceIdeal Cert.ReferenceIdeal.Step Idealize.ShloMosaic Idealize.SL.Sem

variable (m : (ℓ : Loc nD τ sig) → Buf (Elt Ideal) ℓ) (ρ : Dev nD → PrngReg)

/-- The two arguments. -/
abbrev a0 (c : Dev nD) : S16x768x32x32.Idx → EReal := m ((c.tc : Thread nD τ).loc main_arg0)
abbrev a1 (c : Dev nD) : S2x768.Idx → EReal := m ((c.tc : Thread nD τ).loc main_arg1)

/-- The states the loop goes through. -/
def states (c : Dev nD) : ℕ → State Ideal
  | 0 => init (a0 m c) (a1 m c)
  | n + 1 => step n (states c n)

/-- The reference runs to the end with the six results of the vocabulary. -/
theorem run : θ_run (defs (F := Ideal)) (onTc (τ := τ) (main (F := Ideal))) ⟨m, fun _ => 0, ρ⟩ fun r => ∀ c : Dev nD,
      r.2.mem ((c.tc : Thread nD τ).loc main_v46) = Cert.Results.centers (a0 m c) (a1 m c)
      ∧ r.2.mem ((c.tc : Thread nD τ).loc main_v47) = Cert.Results.labels (a0 m c) (a1 m c) 5
      ∧ r.2.mem ((c.tc : Thread nD τ).loc main_v53) = Cert.Results.hots (a0 m c) (a1 m c)
      ∧ r.2.mem ((c.tc : Thread nD τ).loc main_v43) = Cert.Results.weights (a0 m c) (a1 m c)
      ∧ r.2.mem ((c.tc : Thread nD τ).loc main_v54) = Cert.Results.labels (a0 m c) (a1 m c) 0
      ∧ r.2.mem ((c.tc : Thread nD τ).loc main_v56) = Cert.Results.cini (a0 m c) (a1 m c) := by
  refine (θ_run (defs (F := Ideal)) _ _).mono (fun _ hr c => ?_) (StepRun.run_iter m ρ (states m) (fun _ => rfl) (fun _ _ => rfl))
  have i0 : states m c 0 = init (a0 m c) (a1 m c) := rfl
  have is : ∀ n, states m c (n + 1) = step n (states m c n) := fun _ => rfl
  obtain ⟨r1, r2, r3, r4, r5, r6, -⟩ := hr c
  refine ⟨r1.trans (funext fun j => ?_), r2.trans (funext fun j => ?_), r3.trans (funext fun j => ?_), r4.trans (funext fun j => ?_),
    r5.trans (funext fun j => ?_), r6.trans (funext fun j => ?_)⟩
  · exact (congrArg _ (eq_ix2 j)).trans (Ref.centers_eq _ _ _ i0 is (j 0) (j 1))
  · exact (congrArg _ (eq_ix2 j)).trans (Ref.labels_eq _ _ _ i0 is (j 0) (j 1))
  · exact (congrArg _ (eq_ix3 j)).trans (Ref.hot_at _ _ _ i0 is (j 0) (j 1) (j 2))
  · exact (congrArg _ (eq_ix3 j)).trans (Ref.weight_eq _ _ _ i0 is (j 0) (j 1) (j 2))
  · exact (congrArg _ (eq_ix2 j)).trans (Ref.labelP_eq _ _ _ i0 is (j 0) (j 1))
  · exact (congrArg _ (Subsingleton.elim j ix0)).trans (Ref.cini_eq _ _ _ i0 is)

end Cert.ReferenceIdeal.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Finite
public import proofs.«01_k».proof.Proof.Run
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs to the end and leaves its arguments as they were; it has no semaphore. -/
theorem reference_quiescent : Cert.quiescent_ReferenceIdeal (hReferenceIdeal := Cert.ReferenceIdeal.Gen.facts) := fun m ρ _ =>
  (θ_run _ _ _).mono (fun _ h => ⟨fun c => (h c).2.2.2.2.2.2, sem_eq_zero_of_no_sems rfl _⟩)
    (Cert.ReferenceIdeal.Value.run m ρ)

/-- Of finite features, the kernel's and the reference's six results are equal. -/
theorem results_equal : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hagree
  have fin : ∀ c b j n, Ker.Fin' (Spec.feat (Arrays.a0 m c) b j n) := fun c => Finite.feat (fun i => Finite.entry (hpre c) i)
  refine ⟨fun c => Results.centers (Arrays.a0 m c) (Arrays.a1 m c), fun c => Results.labels (Arrays.a0 m c) (Arrays.a1 m c) 5,
    fun c => Results.hots (Arrays.a0 m c) (Arrays.a1 m c), fun c => Results.weights (Arrays.a0 m c) (Arrays.a1 m c),
    fun c => Results.labels (Arrays.a0 m c) (Arrays.a1 m c) 0, fun c => Results.cini (Arrays.a0 m c) (Arrays.a1 m c), (θ_run _ _ _).mono (fun _ h c => ?_) (θ_run_and (KernelIdeal.Value.run m ρ fin) (KernelIdeal.Gen.unchanged m ρ)),
    (θ_run _ _ _).mono (fun _ h c => ?_) (θ_run_and (ReferenceIdeal.Results.run m' ρ') (ReferenceIdeal.Value.run m' ρ'))⟩
  · obtain ⟨h1, h2, h3, h4, h5, h6⟩ := h.1 c
    exact ⟨h1, h2, h3, h4, h5, h6, h.2 c⟩
  · have e0 : ReferenceIdeal.Results.a0 m' c = Arrays.a0 m c := (hagree c).1
    have e1 : ReferenceIdeal.Results.a1 m' c = Arrays.a1 m c := (hagree c).2
    obtain ⟨h1, h2, h3, h4, h5, h6⟩ := h.1 c
    rw [e0, e1] at h1 h2 h3 h4 h5 h6
    exact ⟨h1, h2, h3, h4, h5, h6, (h.2 c).2.2.2.2.2.2⟩

/-- All the claims together. -/
theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ,
  fun m ρ _ => Cert.KernelIdeal.Gen.frame m ρ, reference_quiescent, fun m ρ _ => reference_quiescent m ρ trivial, trivial,
  results_equal⟩

end Cert.Proof

end
